-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_graph_and_state [hPre_finite_graph_and_state : Cert.Pre_finite_graph_and_state.Facts] (m : (ℓ : Loc Cert.KernelIdeal.nD Cert.KernelIdeal.τ Cert.KernelIdeal.sig) → Buf (Elt Ideal) ℓ) : Prop :=
  ∀ c : Dev Cert.KernelIdeal.nD,
    (Cert.Pre_finite_graph_and_state.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite_graph_and_state.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite_graph_and_state.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_graph_and_state [hPre_finite_graph_and_state : Cert.Pre_finite_graph_and_state.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_graph_and_state.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite_graph_and_state.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite_graph_and_state.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_graph_and_state [hKernelIdeal : Cert.KernelIdeal.Facts] [hPre_finite_graph_and_state : Cert.Pre_finite_graph_and_state.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_graph_and_state m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_graph_and_state [hReferenceIdeal : Cert.ReferenceIdeal.Facts] [hPre_finite_graph_and_state : Cert.Pre_finite_graph_and_state.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_graph_and_state m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite_graph_and_state [hKernelIdeal : Cert.KernelIdeal.Facts] [hReferenceIdeal : Cert.ReferenceIdeal.Facts] [hPre_finite_graph_and_state : Cert.Pre_finite_graph_and_state.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_graph_and_state m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_graph_and_state : Cert.Pre_finite_graph_and_state.Facts),
    quiescent_Kernel (hKernel := hKernel)
    ∧ quiescent_KernelIdeal (hKernelIdeal := hKernelIdeal)
    ∧ quiescent_KernelIdeal_pre_finite_graph_and_state (hKernelIdeal := hKernelIdeal) (hPre_finite_graph_and_state := hPre_finite_graph_and_state)
    ∧ quiescent_ReferenceIdeal (hReferenceIdeal := hReferenceIdeal)
    ∧ quiescent_ReferenceIdeal_pre_finite_graph_and_state (hReferenceIdeal := hReferenceIdeal) (hPre_finite_graph_and_state := hPre_finite_graph_and_state)
    ∧ preserves_Kernel_KernelIdeal
    ∧ algebraic_KernelIdeal_ReferenceIdeal_pre_finite_graph_and_state (hKernelIdeal := hKernelIdeal) (hReferenceIdeal := hReferenceIdeal) (hPre_finite_graph_and_state := hPre_finite_graph_and_state)
-- ==== Pre_finite_graph_and_state.lean ====
abbrev S64x650 : Shape := ⟨2, ![64, 650]⟩
abbrev S64x20800 : Shape := ⟨2, ![64, 20800]⟩
abbrev S_ : Shape := ⟨0, ![]⟩
abbrev S64x325x325 : Shape := ⟨3, ![64, 325, 325]⟩
abbrev S325x325 : Shape := ⟨2, ![325, 325]⟩
abbrev S330x128 : Shape := ⟨2, ![330, 128]⟩
abbrev S330x64 : Shape := ⟨2, ![330, 64]⟩

class Facts : Prop where
  bcast_S_S64x650 : S_.BroadcastsInDim S64x650 (![] : Fin 0 → Fin S64x650.rank)
  bcast_S_S64x20800 : S_.BroadcastsInDim S64x20800 (![] : Fin 0 → Fin S64x20800.rank)
  bcast_S_S64x325x325 : S_.BroadcastsInDim S64x325x325 (![] : Fin 0 → Fin S64x325x325.rank)

variable [Facts]

def fn {F : FTy → Type} [FloatOps F] (main_arg0 : FVec F S64x650 .f32) (main_arg1 : FVec F S64x20800 .f32) (main_arg2 : IVec S_ 32) (main_arg3 : FVec F S64x325x325 .f32) (main_arg4 : FVec F S325x325 .f32) (main_arg5 : FVec F S330x128 .f32) (main_arg6 : FVec F S330x64 .f32) : IVec S64x650 1 × IVec S64x20800 1 × IVec S64x325x325 1 :=
  let main_v0 : FVec F S64x650 .f32 := Host.absf main_arg0
  let main_cst : FVec F S_ .f32 := constant S_ .f32 0x7F800000#32
  let main_v1 : FVec F S64x650 .f32 := broadcastInDim S64x650 ![] bcast_S_S64x650 main_cst
  let main_v2 : IVec S64x650 1 := cmpf .olt main_v0 main_v1
  let main_v3 : FVec F S64x20800 .f32 := Host.absf main_arg1
  let main_cst_0 : FVec F S_ .f32 := constant S_ .f32 0x7F800000#32
  let main_v4 : FVec F S64x20800 .f32 := broadcastInDim S64x20800 ![] bcast_S_S64x20800 main_cst_0
  let main_v5 : IVec S64x20800 1 := cmpf .olt main_v3 main_v4
  let main_v6 : FVec F S64x325x325 .f32 := Host.absf main_arg3
  let main_cst_1 : FVec F S_ .f32 := constant S_ .f32 0x7F800000#32
  let main_v7 : FVec F S64x325x325 .f32 := broadcastInDim S64x325x325 ![] bcast_S_S64x325x325 main_cst_1
  let main_v8 : IVec S64x325x325 1 := cmpf .olt main_v6 main_v7
  (main_v2, main_v5, main_v8)
-- ==== Kernel.lean ====
abbrev S64x650 : Shape := ⟨2, ![64, 650]⟩
abbrev S64x20800 : Shape := ⟨2, ![64, 20800]⟩
abbrev S_ : Shape := ⟨0, ![]⟩
abbrev S64x325x325 : Shape := ⟨3, ![64, 325, 325]⟩
abbrev S325x325 : Shape := ⟨2, ![325, 325]⟩
abbrev S330x128 : Shape := ⟨2, ![330, 128]⟩
abbrev S330x64 : Shape := ⟨2, ![330, 64]⟩
abbrev S5 : Shape := ⟨1, ![5]⟩
abbrev S66x5x128 : Shape := ⟨3, ![66, 5, 128]⟩
abbrev S1x5x1 : Shape := ⟨3, ![1, 5, 1]⟩
abbrev S64x5x128 : Shape := ⟨3, ![64, 5, 128]⟩
abbrev S2x5x128 : Shape := ⟨3, ![2, 5, 128]⟩
abbrev S6x5x128 : Shape := ⟨3, ![6, 5, 128]⟩
abbrev S72x5x128 : Shape := ⟨3, ![72, 5, 128]⟩
abbrev S5x72x128 : Shape := ⟨3, ![5, 72, 128]⟩
abbrev S360x128 : Shape := ⟨2, ![360, 128]⟩
abbrev S128x360 : Shape := ⟨2, ![128, 360]⟩
abbrev S66x5x64 : Shape := ⟨3, ![66, 5, 64]⟩
abbrev S64x5x64 : Shape := ⟨3, ![64, 5, 64]⟩
abbrev S2x5x64 : Shape := ⟨3, ![2, 5, 64]⟩
abbrev S6x5x64 : Shape := ⟨3, ![6, 5, 64]⟩
abbrev S72x5x64 : Shape := ⟨3, ![72, 5, 64]⟩
abbrev S5x72x64 : Shape := ⟨3, ![5, 72, 64]⟩
abbrev S360x64 : Shape := ⟨2, ![360, 64]⟩
abbrev S64x360 : Shape := ⟨2, ![64, 360]⟩
abbrev S64x325x2 : Shape := ⟨3, ![64, 325, 2]⟩
abbrev S64x325x64 : Shape := ⟨3, ![64, 325, 64]⟩
abbrev S8x325x2 : Shape := ⟨3, ![8, 325, 2]⟩
abbrev S8x325x64 : Shape := ⟨3, ![8, 325, 64]⟩
abbrev S8x325x325 : Shape := ⟨3, ![8, 325, 325]⟩
abbrev S1x325x325 : Shape := ⟨3, ![1, 325, 325]⟩
abbrev S1x325x64 : Shape := ⟨3, ![1, 325, 64]⟩
abbrev S325x64 : Shape := ⟨2, ![325, 64]⟩
abbrev S64x325 : Shape := ⟨2, ![64, 325]⟩
abbrev S1x325x2 : Shape := ⟨3, ![1, 325, 2]⟩
abbrev S325x2 : Shape := ⟨2, ![325, 2]⟩
abbrev S2x325 : Shape := ⟨2, ![2, 325]⟩
abbrev S6x325 : Shape := ⟨2, ![6, 325]⟩
abbrev S8x325 : Shape := ⟨2, ![8, 325]⟩
abbrev S72x325 : Shape := ⟨2, ![72, 325]⟩
abbrev S360x325 : Shape := ⟨2, ![360, 325]⟩
abbrev S128x325 : Shape := ⟨2, ![128, 325]⟩

abbrev nBuf : Space → Nat
  | .hbm => 38
  | .vmem => 11
  | .smem => 0
  | _ => 0

abbrev bufTy : (tb : Table) → Fin (tcTables nBuf tb) → BufTy
  | .hbm, ⟨0, _⟩ => ⟨S64x650, .f32⟩
  | .hbm, ⟨1, _⟩ => ⟨S64x20800, .f32⟩
  | .hbm, ⟨2, _⟩ => ⟨S_, .i32⟩
  | .hbm, ⟨3, _⟩ => ⟨S64x325x325, .f32⟩
  | .hbm, ⟨4, _⟩ => ⟨S325x325, .f32⟩
  | .hbm, ⟨5, _⟩ => ⟨S330x128, .f32⟩
  | .hbm, ⟨6, _⟩ => ⟨S330x64, .f32⟩
  | .hbm, ⟨7, _⟩ => ⟨S5, .f32⟩
  | .hbm, ⟨8, _⟩ => ⟨S5, .f32⟩
  | .hbm, ⟨9, _⟩ => ⟨S66x5x128, .f32⟩
  | .hbm, ⟨10, _⟩ => ⟨S1x5x1, .f32⟩
  | .hbm, ⟨11, _⟩ => ⟨S66x5x128, .f32⟩
  | .hbm, ⟨12, _⟩ => ⟨S66x5x128, .f32⟩
  | .hbm, ⟨13, _⟩ => ⟨S64x5x128, .f32⟩
  | .hbm, ⟨14, _⟩ => ⟨S2x5x128, .f32⟩
  | .hbm, ⟨15, _⟩ => ⟨S_, .f32⟩
  | .hbm, ⟨16, _⟩ => ⟨S6x5x128, .f32⟩
  | .hbm, ⟨17, _⟩ => ⟨S72x5x128, .f32⟩
  | .hbm, ⟨18, _⟩ => ⟨S5x72x128, .f32⟩
  | .hbm, ⟨19, _⟩ => ⟨S360x128, .f32⟩
  | .hbm, ⟨20, _⟩ => ⟨S128x360, .f32⟩
  | .hbm, ⟨21, _⟩ => ⟨S66x5x64, .f32⟩
  | .hbm, ⟨22, _⟩ => ⟨S1x5x1, .f32⟩
  | .hbm, ⟨23, _⟩ => ⟨S66x5x64, .f32⟩
  | .hbm, ⟨24, _⟩ => ⟨S66x5x64, .f32⟩
  | .hbm, ⟨25, _⟩ => ⟨S64x5x64, .f32⟩
  | .hbm, ⟨26, _⟩ => ⟨S2x5x64, .f32⟩
  | .hbm, ⟨27, _⟩ => ⟨S_, .f32⟩
  | .hbm, ⟨28, _⟩ => ⟨S6x5x64, .f32⟩
  | .hbm, ⟨29, _⟩ => ⟨S72x5x64, .f32⟩
  | .hbm, ⟨30, _⟩ => ⟨S5x72x64, .f32⟩
  | .hbm, ⟨31, _⟩ => ⟨S360x64, .f32⟩
  | .hbm, ⟨32, _⟩ => ⟨S64x360, .f32⟩
  | .hbm, ⟨33, _⟩ => ⟨S64x325x2, .f32⟩
  | .hbm, ⟨34, _⟩ => ⟨S64x325x64, .f32⟩
  | .hbm, ⟨35, _⟩ => ⟨S325x325, .f32⟩
  | .hbm, ⟨36, _⟩ => ⟨S64x325x64, .f32⟩
  | .hbm, ⟨37, _⟩ => ⟨S64x20800, .f32⟩
  | .local _ .vmem, ⟨0, _⟩ => ⟨S8x325x2, .f32⟩
  | .local _ .vmem, ⟨1, _⟩ => ⟨S8x325x2, .f32⟩
  | .local _ .vmem, ⟨2, _⟩ => ⟨S8x325x64, .f32⟩
  | .local _ .vmem, ⟨3, _⟩ => ⟨S8x325x64, .f32⟩
  | .local _ .vmem, ⟨4, _⟩ => ⟨S8x325x325, .f32⟩
  | .local _ .vmem, ⟨5, _⟩ => ⟨S8x325x325, .f32⟩
  | .local _ .vmem, ⟨6, _⟩ => ⟨S325x325, .f32⟩
  | .local _ .vmem, ⟨7, _⟩ => ⟨S128x360, .f32⟩
  | .local _ .vmem, ⟨8, _⟩ => ⟨S64x360, .f32⟩
  | .local _ .vmem, ⟨9, _⟩ => ⟨S8x325x64, .f32⟩
  | .local _ .vmem, ⟨10, _⟩ => ⟨S8x325x64, .f32⟩
  | _, _ => ⟨S64x650, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x325x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x325x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x325x325 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S325x325 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x360 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x360 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x325x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S64x650 : Shape := ⟨2, ![64, 650]⟩
abbrev S64x20800 : Shape := ⟨2, ![64, 20800]⟩
abbrev S_ : Shape := ⟨0, ![]⟩
abbrev S64x325x325 : Shape := ⟨3, ![64, 325, 325]⟩
abbrev S325x325 : Shape := ⟨2, ![325, 325]⟩
abbrev S330x128 : Shape := ⟨2, ![330, 128]⟩
abbrev S330x64 : Shape := ⟨2, ![330, 64]⟩
abbrev S64x325x2 : Shape := ⟨3, ![64, 325, 2]⟩
abbrev S64x325x64 : Shape := ⟨3, ![64, 325, 64]⟩
abbrev S64x325x66 : Shape := ⟨3, ![64, 325, 66]⟩
abbrev S325x66x64 : Shape := ⟨3, ![325, 66, 64]⟩
abbrev S325x4224 : Shape := ⟨2, ![325, 4224]⟩
abbrev S1x325x4224 : Shape := ⟨3, ![1, 325, 4224]⟩
abbrev S5x325x4224 : Shape := ⟨3, ![5, 325, 4224]⟩
abbrev S5x325x66x64 : Shape := ⟨4, ![5, 325, 66, 64]⟩
abbrev S64x325x66x5 : Shape := ⟨4, ![64, 325, 66, 5]⟩
abbrev S20800x330 : Shape := ⟨2, ![20800, 330]⟩
abbrev S20800x128 : Shape := ⟨2, ![20800, 128]⟩
abbrev S64x41600 : Shape := ⟨2, ![64, 41600]⟩
abbrev S64x325x128 : Shape := ⟨3, ![64, 325, 128]⟩
abbrev S20800x64 : Shape := ⟨2, ![20800, 64]⟩

abbrev nBuf : Space → Nat
  | .hbm => 114
  | .vmem => 0
  | .smem => 0
  | _ => 0

abbrev bufTy : (tb : Table) → Fin (tcTables nBuf tb) → BufTy
  | .hbm, ⟨0, _⟩ => ⟨S64x650, .f32⟩
  | .hbm, ⟨1, _⟩ => ⟨S64x20800, .f32⟩
  | .hbm, ⟨2, _⟩ => ⟨S_, .i32⟩
  | .hbm, ⟨3, _⟩ => ⟨S64x325x325, .f32⟩
  | .hbm, ⟨4, _⟩ => ⟨S325x325, .f32⟩
  | .hbm, ⟨5, _⟩ => ⟨S330x128, .f32⟩
  | .hbm, ⟨6, _⟩ => ⟨S330x64, .f32⟩
  | .hbm, ⟨7, _⟩ => ⟨S64x325x2, .f32⟩
  | .hbm, ⟨8, _⟩ => ⟨S64x325x64, .f32⟩
  | .hbm, ⟨9, _⟩ => ⟨S64x325x66, .f32⟩
  | .hbm, ⟨10, _⟩ => ⟨S325x66x64, .f32⟩
  | .hbm, ⟨11, _⟩ => ⟨S325x4224, .f32⟩
  | .hbm, ⟨12, _⟩ => ⟨S325x4224, .f32⟩
  | .hbm, ⟨13, _⟩ => ⟨S64x325x325, .f32⟩
  | .hbm, ⟨14, _⟩ => ⟨S64x325x325, .f32⟩
  | .hbm, ⟨15, _⟩ => ⟨S_, .f32⟩
  | .hbm, ⟨16, _⟩ => ⟨S64x325x325, .f32⟩
  | .hbm, ⟨17, _⟩ => ⟨S64x325x325, .f32⟩
  | .hbm, ⟨18, _⟩ => ⟨S_, .f32⟩
  | .hbm, ⟨19, _⟩ => ⟨S64x325x325, .f32⟩
  | .hbm, ⟨20, _⟩ => ⟨S64x325x325, .f32⟩
  | .hbm, ⟨21, _⟩ => ⟨S_, .f32⟩
  | .hbm, ⟨22, _⟩ => ⟨S64x325x325, .f32⟩
  | .hbm, ⟨23, _⟩ => ⟨S64x325x325, .f32⟩
  | .hbm, ⟨24, _⟩ => ⟨S325x66x64, .f32⟩
  | .hbm, ⟨25, _⟩ => ⟨S64x325x66, .f32⟩
  | .hbm, ⟨26, _⟩ => ⟨S64x325x66, .f32⟩
  | .hbm, ⟨27, _⟩ => ⟨S325x66x64, .f32⟩
  | .hbm, ⟨28, _⟩ => ⟨S325x4224, .f32⟩
  | .hbm, ⟨29, _⟩ => ⟨S325x66x64, .f32⟩
  | .hbm, ⟨30, _⟩ => ⟨S64x325x66, .f32⟩
  | .hbm, ⟨31, _⟩ => ⟨S64x325x66, .f32⟩
  | .hbm, ⟨32, _⟩ => ⟨S325x66x64, .f32⟩
  | .hbm, ⟨33, _⟩ => ⟨S325x4224, .f32⟩
  | .hbm, ⟨34, _⟩ => ⟨S325x66x64, .f32⟩
  | .hbm, ⟨35, _⟩ => ⟨S64x325x66, .f32⟩
  | .hbm, ⟨36, _⟩ => ⟨S64x325x66, .f32⟩
  | .hbm, ⟨37, _⟩ => ⟨S325x66x64, .f32⟩
  | .hbm, ⟨38, _⟩ => ⟨S325x4224, .f32⟩
  | .hbm, ⟨39, _⟩ => ⟨S1x325x4224, .f32⟩
  | .hbm, ⟨40, _⟩ => ⟨S1x325x4224, .f32⟩
  | .hbm, ⟨41, _⟩ => ⟨S1x325x4224, .f32⟩
  | .hbm, ⟨42, _⟩ => ⟨S1x325x4224, .f32⟩
  | .hbm, ⟨43, _⟩ => ⟨S1x325x4224, .f32⟩
  | .hbm, ⟨44, _⟩ => ⟨S5x325x4224, .f32⟩
  | .hbm, ⟨45, _⟩ => ⟨S5x325x66x64, .f32⟩
  | .hbm, ⟨46, _⟩ => ⟨S64x325x66x5, .f32⟩
  | .hbm, ⟨47, _⟩ => ⟨S20800x330, .f32⟩
  | .hbm, ⟨48, _⟩ => ⟨S20800x128, .f32⟩
  | .hbm, ⟨49, _⟩ => ⟨S64x41600, .f32⟩
  | .hbm, ⟨50, _⟩ => ⟨S64x41600, .f32⟩
  | .hbm, ⟨51, _⟩ => ⟨S64x41600, .f32⟩
  | .hbm, ⟨52, _⟩ => ⟨S_, .f32⟩
  | .hbm, ⟨53, _⟩ => ⟨S64x41600, .f32⟩
  | .hbm, ⟨54, _⟩ => ⟨S64x41600, .f32⟩
  | .hbm, ⟨55, _⟩ => ⟨S_, .f32⟩
  | .hbm, ⟨56, _⟩ => ⟨S64x41600, .f32⟩
  | .hbm, ⟨57, _⟩ => ⟨S64x41600, .f32⟩
  | .hbm, ⟨58, _⟩ => ⟨S64x325x128, .f32⟩
  | .hbm, ⟨59, _⟩ => ⟨S64x325x64, .f32⟩
  | .hbm, ⟨60, _⟩ => ⟨S64x20800, .f32⟩
  | .hbm, ⟨61, _⟩ => ⟨S64x325x64, .f32⟩
  | .hbm, ⟨62, _⟩ => ⟨S64x20800, .f32⟩
  | .hbm, ⟨63, _⟩ => ⟨S64x20800, .f32⟩
  | .hbm, ⟨64, _⟩ => ⟨S64x325x2, .f32⟩
  | .hbm, ⟨65, _⟩ => ⟨S64x325x64, .f32⟩
  | .hbm, ⟨66, _⟩ => ⟨S64x325x66, .f32⟩
  | .hbm, ⟨67, _⟩ => ⟨S325x66x64, .f32⟩
  | .hbm, ⟨68, _⟩ => ⟨S325x4224, .f32⟩
  | .hbm, ⟨69, _⟩ => ⟨S325x4224, .f32⟩
  | .hbm, ⟨70, _⟩ => ⟨S64x325x325, .f32⟩
  | .hbm, ⟨71, _⟩ => ⟨S64x325x325, .f32⟩
  | .hbm, ⟨72, _⟩ => ⟨S_, .f32⟩
  | .hbm, ⟨73, _⟩ => ⟨S64x325x325, .f32⟩
  | .hbm, ⟨74, _⟩ => ⟨S64x325x325, .f32⟩
  | .hbm, ⟨75, _⟩ => ⟨S_, .f32⟩
  | .hbm, ⟨76, _⟩ => ⟨S64x325x325, .f32⟩
  | .hbm, ⟨77, _⟩ => ⟨S64x325x325, .f32⟩
  | .hbm, ⟨78, _⟩ => ⟨S_, .f32⟩
  | .hbm, ⟨79, _⟩ => ⟨S64x325x325, .f32⟩
  | .hbm, ⟨80, _⟩ => ⟨S64x325x325, .f32⟩
  | .hbm, ⟨81, _⟩ => ⟨S325x66x64, .f32⟩
  | .hbm, ⟨82, _⟩ => ⟨S64x325x66, .f32⟩
  | .hbm, ⟨83, _⟩ => ⟨S64x325x66, .f32⟩
  | .hbm, ⟨84, _⟩ => ⟨S325x66x64, .f32⟩
  | .hbm, ⟨85, _⟩ => ⟨S325x4224, .f32⟩
  | .hbm, ⟨86, _⟩ => ⟨S325x66x64, .f32⟩
  | .hbm, ⟨87, _⟩ => ⟨S64x325x66, .f32⟩
  | .hbm, ⟨88, _⟩ => ⟨S64x325x66, .f32⟩
  | .hbm, ⟨89, _⟩ => ⟨S325x66x64, .f32⟩
  | .hbm, ⟨90, _⟩ => ⟨S325x4224, .f32⟩
  | .hbm, ⟨91, _⟩ => ⟨S325x66x64, .f32⟩
  | .hbm, ⟨92, _⟩ => ⟨S64x325x66, .f32⟩
  | .hbm, ⟨93, _⟩ => ⟨S64x325x66, .f32⟩
  | .hbm, ⟨94, _⟩ => ⟨S325x66x64, .f32⟩
  | .hbm, ⟨95, _⟩ => ⟨S325x4224, .f32⟩
  | .hbm, ⟨96, _⟩ => ⟨S1x325x4224, .f32⟩
  | .hbm, ⟨97, _⟩ => ⟨S1x325x4224, .f32⟩
  | .hbm, ⟨98, _⟩ => ⟨S1x325x4224, .f32⟩
  | .hbm, ⟨99, _⟩ => ⟨S1x325x4224, .f32⟩
  | .hbm, ⟨100, _⟩ => ⟨S1x325x4224, .f32⟩
  | .hbm, ⟨101, _⟩ => ⟨S5x325x4224, .f32⟩
  | .hbm, ⟨102, _⟩ => ⟨S5x325x66x64, .f32⟩
  | .hbm, ⟨103, _⟩ => ⟨S64x325x66x5, .f32⟩
  | .hbm, ⟨104, _⟩ => ⟨S20800x330, .f32⟩
  | .hbm, ⟨105, _⟩ => ⟨S20800x64, .f32⟩
  | .hbm, ⟨106, _⟩ => ⟨S64x20800, .f32⟩
  | .hbm, ⟨107, _⟩ => ⟨S64x20800, .f32⟩
  | .hbm, ⟨108, _⟩ => ⟨S64x20800, .f32⟩
  | .hbm, ⟨109, _⟩ => ⟨S_, .f32⟩
  | .hbm, ⟨110, _⟩ => ⟨S64x20800, .f32⟩
  | .hbm, ⟨111, _⟩ => ⟨S64x20800, .f32⟩
  | .hbm, ⟨112, _⟩ => ⟨S64x20800, .f32⟩
  | .hbm, ⟨113, _⟩ => ⟨S64x20800, .f32⟩
  | _, _ => ⟨S64x650, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_2 : Ref sig .tc := ⟨.hbm, 52, rfl⟩
abbrev main_v42 : Ref sig .tc := ⟨.hbm, 53, rfl⟩
abbrev main_v43 : Ref sig .tc := ⟨.hbm, 54, rfl⟩
abbrev main_cst_3 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst_4 : Ref sig .tc := ⟨.hbm, 72, rfl⟩
abbrev main_v60 : Ref sig .tc := ⟨.hbm, 73, rfl⟩
abbrev main_v61 : Ref sig .tc := ⟨.hbm, 74, rfl⟩
abbrev main_cst_5 : Ref sig .tc := ⟨.hbm, 75, rfl⟩
abbrev main_v62 : Ref sig .tc := ⟨.hbm, 76, rfl⟩
abbrev main_v63 : Ref sig .tc := ⟨.hbm, 77, rfl⟩
abbrev main_cst_6 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_cst_7 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩

abbrev nD : Nat := 1
abbrev τ : Topo := Topo.v7x

variable {F : FTy → Type} [FloatOps F]
-- ==== Proof.Spec.lean ====
module

public import Idealize.ShloMosaic.Lib.Pointwise

/-! # The recurrent cell over the extended reals, free of any program

One graph convolution mixes five views ("taps") of every feature row: the row itself, the row after one step along the
fixed graph, and the row after one, two and three steps along the learned graph, each scaled by its coefficient. Here the
convolution is written in the two ways the programs compute it, and the two are shown equal where the learned graph and
the rows are real numbers. -/

@[expose] public section

set_option maxRecDepth 16384

noncomputable section

namespace Cert.Cell

open Idealize.ShloMosaic

/-- The five coefficients: one for the row and the fixed graph, three constants for the learned graph's powers. -/
def coef : Fin 5 → EReal
  | 0 => 1
  | 1 => 1
  | 2 => Ideal.ofBits .f32 0x3D428F5C#32
  | 3 => Ideal.ofBits .f32 0x3D38D4FE#32
  | 4 => Ideal.ofBits .f32 0x3F5B7CEE#32

/-- One step of a row along a graph. -/
def hop (A : Fin 325 → Fin 325 → EReal) (x : Fin 325 → EReal) (n : Fin 325) : EReal :=
  ∑ m, x m * A n m

/-- The five views of a row, the learned graph's applied one step after another. -/
def tap (A S : Fin 325 → Fin 325 → EReal) (x : Fin 325 → EReal) : Fin 5 → Fin 325 → EReal
  | 0 => x
  | 1 => hop S x
  | 2 => hop A x
  | 3 => hop A (hop A x)
  | 4 => hop A (hop A (hop A x))

/-- The five views of a row, the learned graph's by its scaled powers. -/
def rtap (A S : Fin 325 → Fin 325 → EReal) (x : Fin 325 → EReal) : Fin 5 → Fin 325 → EReal
  | 0 => x
  | 1 => fun n => ∑ m, S n m * x m
  | 2 => fun n => ∑ m, coef 2 * A n m * x m
  | 3 => fun n => ∑ m, (coef 3 * ∑ j, A n j * A j m) * x m
  | 4 => fun n => ∑ m, (coef 4 * ∑ j, (∑ i, A n i * A i j) * A j m) * x m

/-- The place of feature `f`, view `k` among the rows of a weight matrix. -/
abbrev row (f : Fin 66) (k : Fin 5) : Fin 330 := ⟨f.val * 5 + k.val, by omega⟩

/-- The convolution with the coefficients folded into the weights. -/
def conv (A S : Fin 325 → Fin 325 → EReal) (X : Fin 66 → Fin 325 → EReal) (W : Fin 330 → EReal) (n : Fin 325) : EReal :=
  ∑ f, ∑ k, tap A S (X f) k n * (W (row f k) * coef k)

/-- The convolution with the coefficients in the graph's powers. -/
def rconv (A S : Fin 325 → Fin 325 → EReal) (X : Fin 66 → Fin 325 → EReal) (W : Fin 330 → EReal) (n : Fin 325) : EReal :=
  ∑ f, ∑ k, rtap A S (X f) k n * W (row f k)

/-- The feature rows: two inputs, then the state. -/
def feat (inp : Fin 325 → Fin 2 → EReal) (h : Fin 325 → Fin 64 → EReal) (f : Fin 66) (n : Fin 325) : EReal :=
  if hf : f.val < 2 then inp n ⟨f.val, hf⟩ else h n ⟨f.val - 2, by omega⟩

/-- A gate of the cell, `cv` being the convolution. -/
def gate (cv : (Fin 66 → Fin 325 → EReal) → (Fin 330 → EReal) → Fin 325 → EReal)
    (inp : Fin 325 → Fin 2 → EReal) (h : Fin 325 → Fin 64 → EReal) (W : Fin 330 → Fin 128 → EReal) (n : Fin 325) (o : Fin 128) :
    EReal :=
  Ideal.logistic (cv (feat inp h) (fun q => W q o) n)

/-- The state damped by the first half of the gates. -/
def damped (cv : (Fin 66 → Fin 325 → EReal) → (Fin 330 → EReal) → Fin 325 → EReal)
    (inp : Fin 325 → Fin 2 → EReal) (h : Fin 325 → Fin 64 → EReal) (W : Fin 330 → Fin 128 → EReal) (n : Fin 325) (j : Fin 64) :
    EReal :=
  gate cv inp h W n ⟨j.val, by omega⟩ * h n j

/-- The cell's new state: the old state and the candidate mixed by the second half of the gates. -/
def cell (cv : (Fin 66 → Fin 325 → EReal) → (Fin 330 → EReal) → Fin 325 → EReal)
    (inp : Fin 325 → Fin 2 → EReal) (h : Fin 325 → Fin 64 → EReal) (W : Fin 330 → Fin 128 → EReal) (Wc : Fin 330 → Fin 64 → EReal)
    (n : Fin 325) (j : Fin 64) : EReal :=
  gate cv inp h W n ⟨64 + j.val, by omega⟩ * h n j
    + (1 - gate cv inp h W n ⟨64 + j.val, by omega⟩)
      * Ideal.tanh (cv (feat inp (damped cv inp h W)) (fun q => Wc q j) n)

/-! ## Real numbers among the extended reals -/

/-- A value that is a real number. -/
def Real' (x : EReal) : Prop := ∃ r : ℝ, x = r

/-- A value whose magnitude lies below infinity is a real number. -/
theorem real_of_abs_lt {x : EReal} (h : max x (-x) < ⊤) : Real' x := by
  induction x with
  | bot => simp at h
  | top => simp at h
  | coe r => exact ⟨r, rfl⟩

/-- A product of two real numbers is real. -/
theorem Real'.mul {x y : EReal} (hx : Real' x) (hy : Real' y) : Real' (x * y) := by
  obtain ⟨a, rfl⟩ := hx
  obtain ⟨b, rfl⟩ := hy
  exact ⟨a * b, (EReal.coe_mul a b).symm⟩

/-- A sum of real numbers, taken among the extended reals, is their real sum. -/
theorem coe_sum {n : ℕ} (s : Fin n → ℝ) : ((∑ i, s i : ℝ) : EReal) = ∑ i, (s i : EReal) :=
  map_sum (⟨⟨Real.toEReal, EReal.coe_zero⟩, EReal.coe_add⟩ : ℝ →+ EReal) s Finset.univ

/-- A word whose exponent is not all ones denotes a real number. -/
theorem ofBits_real (b : BitVec 32) (h : (BitVec.extractLsb' 23 8 b).toNat ≠ 255) : Real' (Ideal.ofBits .f32 b) := by
  unfold Ideal.ofBits Ideal.ieee
  dsimp only
  rw [if_neg (show ¬ _ = 2 ^ 8 - 1 from h)]
  split
  · exact ⟨_, rfl⟩
  · exact ⟨_, rfl⟩

/-- Every coefficient is a real number. -/
theorem coef_real (k : Fin 5) : Real' (coef k) :=
  match k with
  | 0 => ⟨1, rfl⟩
  | 1 => ⟨1, rfl⟩
  | 2 => ofBits_real 0x3D428F5C#32 (by decide)
  | 3 => ofBits_real 0x3D38D4FE#32 (by decide)
  | 4 => ofBits_real 0x3F5B7CEE#32 (by decide)

/-- The logistic function has real values, also at the infinities. -/
theorem logistic_real (x : EReal) : Real' (Ideal.logistic x) := by
  unfold Ideal.logistic
  induction x with
  | bot =>
    refine ⟨0, ?_⟩
    have h : (1 : EReal) + Ideal.exp (-⊥) = ⊤ := by
      rw [EReal.neg_bot]
      exact EReal.coe_add_top 1
    rw [h]
    simp [Ideal.div]
  | top =>
    refine ⟨1, ?_⟩
    have h : (1 : EReal) + Ideal.exp (-⊤) = 1 := by
      rw [EReal.neg_top]
      exact add_zero 1
    rw [h]
    simp [Ideal.div]
  | coe r =>
    refine ⟨1 * (1 / (1 + Real.exp (-r))), ?_⟩
    have h : (1 : EReal) + Ideal.exp (-(r : EReal)) = ((1 + Real.exp (-r) : ℝ) : EReal) := (EReal.coe_add 1 _).symm
    rw [h, Ideal.div_coe (by positivity)]
    exact (EReal.coe_mul 1 _).symm

/-! ## The two convolutions agree -/

/-- The scaled powers of a real graph give the same views as its steps taken one after another. -/
theorem rtap_eq (A S : Fin 325 → Fin 325 → EReal) (x : Fin 325 → EReal) (hA : ∀ n m, Real' (A n m)) (hx : ∀ m, Real' (x m))
    (k : Fin 5) (n : Fin 325) : rtap A S x k n = coef k * tap A S x k n := by
  choose a ha using hA
  choose r hr using hx
  choose c hc using coef_real
  obtain rfl : A = fun n m => (a n m : EReal) := funext fun n => funext fun m => ha n m
  obtain rfl : x = fun m => (r m : EReal) := funext hr
  match k with
  | 0 => exact (one_mul _).symm
  | 1 => exact (Finset.sum_congr rfl fun m _ => mul_comm _ _).trans (one_mul _).symm
  | 2 =>
    simp only [rtap, tap, hop, hc, ← EReal.coe_mul, ← coe_sum, Finset.mul_sum, EReal.coe_eq_coe_iff]
    exact Finset.sum_congr rfl fun m _ => by ring
  | 3 =>
    simp only [rtap, tap, hop, hc, ← EReal.coe_mul, ← coe_sum, Finset.mul_sum, Finset.sum_mul, EReal.coe_eq_coe_iff]
    rw [Finset.sum_comm]
    exact Finset.sum_congr rfl fun j _ => Finset.sum_congr rfl fun m _ => by ring
  | 4 =>
    simp only [rtap, tap, hop, hc, ← EReal.coe_mul, ← coe_sum, Finset.mul_sum, Finset.sum_mul, EReal.coe_eq_coe_iff]
    rw [Finset.sum_comm, Finset.sum_congr rfl fun j _ => Finset.sum_comm, Finset.sum_comm]
    exact Finset.sum_congr rfl fun i _ => Finset.sum_congr rfl fun j _ => Finset.sum_congr rfl fun m _ => by ring

/-- The two convolutions agree where the learned graph and the feature rows are real. -/
theorem rconv_eq (A S : Fin 325 → Fin 325 → EReal) (X : Fin 66 → Fin 325 → EReal) (W : Fin 330 → EReal)
    (hA : ∀ n m, Real' (A n m)) (hX : ∀ f m, Real' (X f m)) (n : Fin 325) : rconv A S X W n = conv A S X W n :=
  Finset.sum_congr rfl fun f _ => Finset.sum_congr rfl fun k _ => by
    rw [rtap_eq A S (X f) hA (hX f) k n, mul_comm (coef k), mul_assoc, mul_comm (coef k)]

/-- Feature rows of real inputs and a real state are real. -/
theorem feat_real {inp : Fin 325 → Fin 2 → EReal} {h : Fin 325 → Fin 64 → EReal} (hi : ∀ n i, Real' (inp n i))
    (hh : ∀ n j, Real' (h n j)) (f : Fin 66) (n : Fin 325) : Real' (feat inp h f n) := by
  unfold feat
  split
  · exact hi _ _
  · exact hh _ _

/-- The cell is the same with either convolution where inputs, state and learned graph are real. -/
theorem cell_eq (A S : Fin 325 → Fin 325 → EReal) (inp : Fin 325 → Fin 2 → EReal) (h : Fin 325 → Fin 64 → EReal)
    (W : Fin 330 → Fin 128 → EReal) (Wc : Fin 330 → Fin 64 → EReal)
    (hA : ∀ n m, Real' (A n m)) (hi : ∀ n i, Real' (inp n i)) (hh : ∀ n j, Real' (h n j)) (n : Fin 325) (j : Fin 64) :
    cell (rconv A S) inp h W Wc n j = cell (conv A S) inp h W Wc n j := by
  have hg : gate (rconv A S) inp h W = gate (conv A S) inp h W := funext fun n => funext fun o =>
    congrArg Ideal.logistic (rconv_eq A S _ _ hA (feat_real hi hh) n)
  have hd : damped (rconv A S) inp h W = damped (conv A S) inp h W := by
    unfold damped
    rw [hg]
  have hr : ∀ n j, Real' (damped (conv A S) inp h W n j) := fun n j => (logistic_real _).mul (hh n j)
  unfold cell
  rw [hg, hd, rconv_eq A S _ _ hA (feat_real hi hr) n]

/-! ## The padded layout -/

/-- The convolution over rows laid out state first, then inputs, then padding of weight zero, view by view. -/
theorem conv_of_padded (A S : Fin 325 → Fin 325 → EReal) (X : Fin 66 → Fin 325 → EReal) (W : Fin 330 → EReal)
    (Y : Fin 72 → Fin 325 → EReal) (V : Fin 5 → Fin 72 → EReal)
    (hYs : ∀ j : Fin 64, Y ⟨j.val, by omega⟩ = X ⟨2 + j.val, by omega⟩)
    (hYi : ∀ i : Fin 2, Y ⟨64 + i.val, by omega⟩ = X ⟨i.val, by omega⟩)
    (hVs : ∀ (k : Fin 5) (j : Fin 64), V k ⟨j.val, by omega⟩ = W (row ⟨2 + j.val, by omega⟩ k) * coef k)
    (hVi : ∀ (k : Fin 5) (i : Fin 2), V k ⟨64 + i.val, by omega⟩ = W (row ⟨i.val, by omega⟩ k) * coef k)
    (hV0 : ∀ (k : Fin 5) (i : Fin 6), V k ⟨66 + i.val, by omega⟩ = 0) (n : Fin 325) :
    ∑ k, ∑ f, V k f * tap A S (Y f) k n = conv A S X W n := by
  unfold conv
  rw [Finset.sum_comm (s := (Finset.univ : Finset (Fin 66)))]
  refine Finset.sum_congr rfl fun k _ => ?_
  have e72 : ∀ g : Fin 72 → EReal, ∑ f, g f = ∑ j : Fin 64, g ⟨j.val, by omega⟩
      + (∑ i : Fin 2, g ⟨64 + i.val, by omega⟩ + ∑ i : Fin 6, g ⟨66 + i.val, by omega⟩) := fun g =>
    (Fin.sum_univ_add (a := 64) (b := 8) g).trans
      (congrArg _ (Fin.sum_univ_add (a := 2) (b := 6) fun i : Fin 8 => g ⟨64 + i.val, by omega⟩))
  have e66 : ∀ g : Fin 66 → EReal, ∑ f, g f = ∑ i : Fin 2, g ⟨i.val, by omega⟩ + ∑ j : Fin 64, g ⟨2 + j.val, by omega⟩ :=
    fun g => Fin.sum_univ_add (a := 2) (b := 64) g
  rw [e72, e66]
  simp only [hYs, hYi, hVs, hVi, hV0, zero_mul, Finset.sum_const_zero, add_zero, mul_comm]
  exact add_comm _ _

end Cert.Cell
-- ==== Proof.Finite.lean ====
module

public import proofs.«01_k».proof.Proof.Gen.Pre_finite_graph_and_state
public import proofs.«01_k».proof.Proof.Spec
public import Idealize.ShloMosaic.Lib.Pointwise
public import Idealize.ShloMosaic.Lib.Pipeline.ValueKit

/-! # What the precondition says of every entry -/

@[expose] public section

set_option maxRecDepth 16384

noncomputable section

namespace Cert.Finite

open Cert.Pre_finite_graph_and_state Idealize.ShloMosaic

/-- An array whose absolute values all compare below the infinite word has real entries. -/
theorem real_of_lt {S : Shape} (hb : S_.BroadcastsInDim S (![] : Fin 0 → Fin S.rank)) (x : FVec Ideal S .f32)
    (h : cmpf .olt (Host.absf x) (broadcastInDim S ![] hb (constant (F := Ideal) S_ .f32 0x7F800000#32)) = fun _ => 1#1) (i : S.Idx) :
    Cell.Real' (x i) := by
  have hi := congrFun h i
  pointwise at hi
  refine Cell.real_of_abs_lt (lt_of_lt_of_eq (b := Ideal.ofBits .f32 0x7F800000#32) ?_ ?_)
  · by_contra hn
    refine absurd (hi.symm.trans (congrArg BitVec.ofBool (decide_eq_false hn))) (by decide)
  · simp [Ideal.ofBits, Ideal.ieee]

end Cert.Finite
-- ==== Proof.Block.lean ====
module

public import proofs.«01_k».proof.Proof.Gen.KernelIdeal.Frame
public import proofs.«01_k».proof.Proof.Spec
public import Idealize.ShloMosaic.Lib.Pipeline.ValueKit
public import Idealize.ShloMosaic.Lib.Pointwise

/-! # What the kernel's body computes for one batch -/

@[expose] public section

set_option maxRecDepth 16384

noncomputable section

namespace Cert.KernelIdeal.Block

open Cert.KernelIdeal Cert.KernelIdeal.Gen Idealize.ShloMosaic Idealize.ShloMosaic.TcCoe Idealize.SL.Sem

/-- The five views of a batch's feature rows, stacked. -/
def hops (x : FVec Ideal S72x325 .f32) (sup adp : FVec Ideal S325x325 .f32) : FVec Ideal S360x325 .f32 :=
  let z : FVec Ideal S72x325 .f32 := constant S72x325 .f32 0x00000000#32
  let s : FVec Ideal S72x325 .f32 := matmul dot_S72x325_S325x325_S72x325_1_0_0_1_n_n none x sup z
  let y1 : FVec Ideal S72x325 .f32 := matmul dot_S72x325_S325x325_S72x325_1_1_0_0_n_n none x adp z
  let y2 : FVec Ideal S72x325 .f32 := matmul dot_S72x325_S325x325_S72x325_1_1_0_0_n_n none y1 adp z
  let y3 : FVec Ideal S72x325 .f32 := matmul dot_S72x325_S325x325_S72x325_1_1_0_0_n_n none y2 adp z
  concatenate S360x325 0 [⟨S72x325, x⟩, ⟨S72x325, s⟩, ⟨S72x325, y1⟩, ⟨S72x325, y2⟩, ⟨S72x325, y3⟩]
    concatenates_S72x325_S72x325_S72x325_S72x325_S72x325_S360x325_d0

/-- Both gates of a batch. -/
def gates (sup adp : FVec Ideal S325x325 .f32) (x : FVec Ideal S72x325 .f32) (wru : FVec Ideal S128x360 .f32) :
    FVec Ideal S128x325 .f32 :=
  logistic (matmul dot_S128x360_S360x325_S128x325_1_0_0_1_n_n none wru (hops x sup adp) (constant S128x325 .f32 0x00000000#32))

/-- The second convolution's rows: the damped state over the first rows, the rest kept. -/
def rows2 (sup adp : FVec Ideal S325x325 .f32) (h : FVec Ideal S64x325 .f32) (x : FVec Ideal S72x325 .f32)
    (wru : FVec Ideal S128x360 .f32) : FVec Ideal S72x325 .f32 :=
  concatenate S72x325 0
    [⟨S64x325, mulf (extractStridedSlice S64x325 ![0, 0] (gates sup adp x wru) slices_S128x325_o0_0_S64x325) h⟩,
     ⟨S8x325, extractStridedSlice S8x325 ![64, 0] x slices_S72x325_o64_0_S8x325⟩] concatenates_S64x325_S8x325_S72x325_d0

/-- The candidate state of a batch. -/
def cand (sup adp : FVec Ideal S325x325 .f32) (x2 : FVec Ideal S72x325 .f32) (wc : FVec Ideal S64x360 .f32) :
    FVec Ideal S64x325 .f32 :=
  tanh (matmul dot_S64x360_S360x325_S64x325_1_0_0_1_n_n none wc (hops x2 sup adp) (constant S64x325 .f32 0x00000000#32))

/-- What the body stores for a batch, by the stages above. -/
def block (sup adp : FVec Ideal S325x325 .f32) (h : FVec Ideal S64x325 .f32) (x : FVec Ideal S72x325 .f32)
    (wru : FVec Ideal S128x360 .f32) (wc : FVec Ideal S64x360 .f32) : FVec Ideal S1x325x64 .f32 :=
  let u : FVec Ideal S64x325 .f32 := extractStridedSlice S64x325 ![64, 0] (gates sup adp x wru) slices_S128x325_o64_0_S64x325
  shapeCast S1x325x64 (transpose S325x64 [1, 0]
    (addf (mulf u h) (mulf (subf (broadcast S64x325 (Scalar.ofBits .f32 0x3F800000#32)) u) (cand sup adp (rows2 sup adp h x wru) wc)))
    transposes_S64x325_p1_0_S325x64) shapeCasts_S325x64_S1x325x64

/-- The printed payload is these stages over the loaded weights. -/
theorem pay_eq (v1 v311 : FVec Ideal S325x325 .f32) (v314 : FVec Ideal S64x325 .f32) (v321 : FVec Ideal S72x325 .f32)
    (v322 : FVec Ideal S128x360 .f32) (v336 : FVec Ideal S64x360 .f32) :
    k0_pay1 v1 v311 v314 v321 v322 v336 = block v1 v311 v314 v321 (shapeCast S128x360 v322 shapeCasts_S128x360_S128x360)
      (shapeCast S64x360 v336 shapeCasts_S64x360_S64x360) := rfl

/-- A row of the stack is a view of a feature row. -/
theorem hops_at (x : FVec Ideal S72x325 .f32) (sup adp : FVec Ideal S325x325 .f32) (k : Fin 5) (f : Fin 72) (n : Fin 325) :
    hops x sup adp (ix2 ⟨k.val * 72 + f.val, by omega⟩ n)
      = Cell.tap (fun a b => adp (ix2 a b)) (fun a b => sup (ix2 b a)) (fun a => x (ix2 f a)) k n := by
  have hf := f.isLt
  pointwise [hops]
  match k with
  | 0 =>
    rw [dif_pos (by simp)]
    simp [Cell.tap]
  | 1 =>
    rw [dif_neg (by simp), dif_pos (by simp)]
    simp [Cell.tap, Cell.hop]
  | 2 =>
    rw [dif_neg (by simp; omega), dif_neg (by simp; omega), dif_pos (by simp; omega)]
    simp only [Cell.tap, Cell.hop, Fin.val_two]
    blk_point []
  | 3 =>
    have e : ((3 : Fin 5) : ℕ) = 3 := rfl
    rw [dif_neg (by rw [e]; omega), dif_neg (by rw [e]; omega), dif_neg (by rw [e]; omega), dif_pos (by rw [e]; omega)]
    simp only [Cell.tap, Cell.hop, e]
    blk_point []
  | 4 =>
    have e : ((4 : Fin 5) : ℕ) = 4 := rfl
    rw [dif_neg (by rw [e]; omega), dif_neg (by rw [e]; omega), dif_neg (by rw [e]; omega), dif_neg (by rw [e]; omega)]
    simp only [Cell.tap, Cell.hop, e]
    blk_point []

/-- Rows laid out state first, then inputs. -/
def Rows (x : FVec Ideal S72x325 .f32) (inp : Fin 325 → Fin 2 → EReal) (h : Fin 325 → Fin 64 → EReal) : Prop :=
  (∀ (j : Fin 64) (n : Fin 325), x (ix2 ⟨j.val, by omega⟩ n) = h n j)
    ∧ ∀ (i : Fin 2) (n : Fin 325), x (ix2 ⟨64 + i.val, by omega⟩ n) = inp n i

/-- Weights laid out view by view, in each the state's, then the inputs', then zeros, with the coefficients folded in. -/
def Laid (w : Fin 360 → EReal) (W : Fin 330 → EReal) : Prop :=
  (∀ (k : Fin 5) (j : Fin 64), w ⟨k.val * 72 + j.val, by omega⟩ = W (Cell.row ⟨2 + j.val, by omega⟩ k) * Cell.coef k)
    ∧ (∀ (k : Fin 5) (i : Fin 2), w ⟨k.val * 72 + (64 + i.val), by omega⟩ = W (Cell.row ⟨i.val, by omega⟩ k) * Cell.coef k)
    ∧ ∀ (k : Fin 5) (i : Fin 6), w ⟨k.val * 72 + (66 + i.val), by omega⟩ = 0

/-- A weighted sum of the stacked views, read at one node, is the convolution. -/
theorem conv_at {w : Fin 360 → EReal} {W : Fin 330 → EReal} {x : FVec Ideal S72x325 .f32} {inp : Fin 325 → Fin 2 → EReal}
    {h : Fin 325 → Fin 64 → EReal} (hw : Laid w W) (hx : Rows x inp h) (sup adp : FVec Ideal S325x325 .f32) (n : Fin 325) :
    ∑ p : Fin 360, w p * hops x sup adp (ix2 p n)
      = Cell.conv (fun a b => adp (ix2 a b)) (fun a b => sup (ix2 b a)) (Cell.feat inp h) W n := by
  rw [Fin.sum_univ_tiles 5 72 rfl, ← Cell.conv_of_padded (fun a b => adp (ix2 a b)) (fun a b => sup (ix2 b a)) (Cell.feat inp h) W
    (fun f n => x (ix2 f n)) (fun k f => w ⟨k.val * 72 + f.val, by omega⟩) (fun j => funext fun n => ?_)
    (fun i => funext fun n => ?_) hw.1 hw.2.1 hw.2.2 n]
  · exact Finset.sum_congr rfl fun k _ => Finset.sum_congr rfl fun f _ => congrArg _ (hops_at x sup adp k f n)
  · refine (hx.1 j n).trans ?_
    unfold Cell.feat
    rw [dif_neg (by simp; omega)]
    simp
  · refine (hx.2 i n).trans ?_
    unfold Cell.feat
    rw [dif_pos i.isLt]

section
variable {wru : FVec Ideal S128x360 .f32} {wc : FVec Ideal S64x360 .f32} {W : Fin 330 → Fin 128 → EReal} {Wc : Fin 330 → Fin 64 → EReal}
  {x : FVec Ideal S72x325 .f32} {h : FVec Ideal S64x325 .f32} {inp : Fin 325 → Fin 2 → EReal} {H : Fin 325 → Fin 64 → EReal}
  (sup adp : FVec Ideal S325x325 .f32)

/-- The gates are the cell's. -/
theorem gates_at (hw : ∀ o, Laid (fun p => wru (ix2 o p)) (fun q => W q o)) (hx : Rows x inp H) (o : Fin 128) (n : Fin 325) :
    gates sup adp x wru (ix2 o n)
      = Cell.gate (Cell.conv (fun a b => adp (ix2 a b)) (fun a b => sup (ix2 b a))) inp H W n o := by
  pointwise [gates]
  exact congrArg Ideal.logistic (conv_at (hw o) hx sup adp n)

/-- The second convolution's rows hold the damped state and the inputs. -/
theorem rows2_at (hw : ∀ o, Laid (fun p => wru (ix2 o p)) (fun q => W q o)) (hx : Rows x inp H)
    (hh : ∀ (j : Fin 64) (n : Fin 325), h (ix2 j n) = H n j) :
    Rows (rows2 sup adp h x wru) inp
      (Cell.damped (Cell.conv (fun a b => adp (ix2 a b)) (fun a b => sup (ix2 b a))) inp H W) := by
  refine ⟨fun j n => ?_, fun i n => ?_⟩
  · pointwise [rows2]
    exact Ideal.mul_congr (gates_at sup adp hw hx _ n) (hh j n)
  · pointwise [rows2]
    exact hx.2 i n

/-- What the body stores for a batch is the cell. -/
theorem block_at (hw : ∀ o, Laid (fun p => wru (ix2 o p)) (fun q => W q o)) (hwc : ∀ o, Laid (fun p => wc (ix2 o p)) (fun q => Wc q o))
    (hx : Rows x inp H) (hh : ∀ (j : Fin 64) (n : Fin 325), h (ix2 j n) = H n j) (n : Fin 325) (j : Fin 64) :
    block sup adp h x wru wc (ix3 0 n j)
      = Cell.cell (Cell.conv (fun a b => adp (ix2 a b)) (fun a b => sup (ix2 b a))) inp H W Wc n j := by
  have hg := gates_at sup adp hw hx ⟨64 + j.val, by omega⟩ n
  have hc := conv_at (hwc j) (rows2_at sup adp hw hx hh) sup adp n
  pointwise [block, cand]
  rw [hg, hh j n, hc]
  rfl

end

end Cert.KernelIdeal.Block
-- ==== Proof.Prep.lean ====
module

public import proofs.«01_k».proof.Proof.Block
public import Idealize.ShloMosaic.Lib.Claim

/-! # The operands computed before the kernel's grid -/

@[expose] public section

set_option maxRecDepth 16384

noncomputable section

namespace Cert.KernelIdeal.Prep

open Cert.KernelIdeal Cert.KernelIdeal.Gen Idealize.ShloMosaic Idealize.ShloMosaic.TcCoe Idealize.SL.Sem

/-- The coefficients as the program's constant. -/
def coefs : FVec Ideal S5 .f32 := fun i => Ideal.ofBits .f32 (lit0 (S5.rowMajor i))

/-- The gates' weights with the coefficients folded in, one plane per feature. -/
def scaledG (W : FVec Ideal S330x128 .f32) : FVec Ideal S66x5x128 .f32 :=
  mulf (shapeCast S66x5x128 W shapeCasts_S330x128_S66x5x128)
    (broadcastInDim S66x5x128 ![0, 1, 2] bcast_S1x5x1_S66x5x128_0_1_2 (broadcastInDim S1x5x1 ![1] bcast_S5_S1x5x1_1 coefs))

/-- The gates' planes in the kernel's order: the state's features, the inputs', the padding. -/
def stackG (a : FVec Ideal S64x5x128 .f32) (b : FVec Ideal S2x5x128 .f32) (z : FVec Ideal S6x5x128 .f32) : FVec Ideal S72x5x128 .f32 :=
  concatenate S72x5x128 0 [⟨S64x5x128, a⟩, ⟨S2x5x128, b⟩, ⟨S6x5x128, z⟩] concatenates_S64x5x128_S2x5x128_S6x5x128_S72x5x128_d0

/-- The gates' weights laid out for the kernel. -/
def layG (W : FVec Ideal S330x128 .f32) : FVec Ideal S128x360 .f32 :=
  transpose S128x360 [1, 0] (shapeCast S360x128 (transpose S5x72x128 [1, 0, 2]
    (stackG (extractStridedSlice S64x5x128 ![2, 0, 0] (scaledG W) slices_S66x5x128_S64x5x128_2_0_0)
      (extractStridedSlice S2x5x128 ![0, 0, 0] (scaledG W) slices_S66x5x128_S2x5x128_0_0_0)
      (broadcastInDim S6x5x128 ![] bcast_S_S6x5x128 (constant (F := Ideal) S_ .f32 0x00000000#32)))
    transposes_S72x5x128_S5x72x128_1_0_2) shapeCasts_S5x72x128_S360x128)
    transposes_S360x128_S128x360_1_0

/-- The candidate's weights with the coefficients folded in, one plane per feature. -/
def scaledC (W : FVec Ideal S330x64 .f32) : FVec Ideal S66x5x64 .f32 :=
  mulf (shapeCast S66x5x64 W shapeCasts_S330x64_S66x5x64)
    (broadcastInDim S66x5x64 ![0, 1, 2] bcast_S1x5x1_S66x5x64_0_1_2 (broadcastInDim S1x5x1 ![1] bcast_S5_S1x5x1_1 coefs))

/-- The candidate's planes in the kernel's order: the state's features, the inputs', the padding. -/
def stackC (a : FVec Ideal S64x5x64 .f32) (b : FVec Ideal S2x5x64 .f32) (z : FVec Ideal S6x5x64 .f32) : FVec Ideal S72x5x64 .f32 :=
  concatenate S72x5x64 0 [⟨S64x5x64, a⟩, ⟨S2x5x64, b⟩, ⟨S6x5x64, z⟩] concatenates_S64x5x64_S2x5x64_S6x5x64_S72x5x64_d0

/-- The candidate's weights laid out for the kernel. -/
def layC (W : FVec Ideal S330x64 .f32) : FVec Ideal S64x360 .f32 :=
  transpose S64x360 [1, 0] (shapeCast S360x64 (transpose S5x72x64 [1, 0, 2]
    (stackC (extractStridedSlice S64x5x64 ![2, 0, 0] (scaledC W) slices_S66x5x64_S64x5x64_2_0_0)
      (extractStridedSlice S2x5x64 ![0, 0, 0] (scaledC W) slices_S66x5x64_S2x5x64_0_0_0)
      (broadcastInDim S6x5x64 ![] bcast_S_S6x5x64 (constant (F := Ideal) S_ .f32 0x00000000#32)))
    transposes_S72x5x64_S5x72x64_1_0_2) shapeCasts_S5x72x64_S360x64)
    transposes_S360x64_S64x360_1_0

variable (m : (ℓ : Loc nD τ sig) → Buf (Elt Ideal) ℓ) (c : Dev nD)

/-- The gates' laid-out weights are the layout of the weights argument. -/
theorem V_v10 : V m c main_v10 = layG (m ((c.tc : Thread nD τ).loc main_arg5)) := by
  show StableHlo.after hostOps0 _ _ = _
  after_results_simp
  show transpose S128x360 [1, 0] (shapeCast S360x128 (transpose S5x72x128 [1, 0, 2] (stackG _ _ _) transposes_S72x5x128_S5x72x128_1_0_2)
    shapeCasts_S5x72x128_S360x128) transposes_S360x128_S128x360_1_0 = _
  dsimp only [Matrix.cons_val]
  after_results_simp
  rfl

/-- The candidate's laid-out weights are the layout of the weights argument. -/
theorem V_v21 : V m c main_v21 = layC (m ((c.tc : Thread nD τ).loc main_arg6)) := by
  show StableHlo.after hostOps0 _ _ = _
  after_results_simp
  show transpose S64x360 [1, 0] (shapeCast S360x64 (transpose S5x72x64 [1, 0, 2] (stackC _ _ _) transposes_S72x5x64_S5x72x64_1_0_2)
    shapeCasts_S5x72x64_S360x64) transposes_S360x64_S64x360_1_0 = _
  dsimp only [Matrix.cons_val]
  after_results_simp
  rfl

/-- The inputs, one plane per batch. -/
theorem V_v22 (b : Fin 64) (n : Fin 325) (i : Fin 2) :
    V m c main_v22 (ix3 b n i) = m ((c.tc : Thread nD τ).loc main_arg0) (ix2 b ⟨n.val * 2 + i.val, by omega⟩) := by
  have e : V m c main_v22 = shapeCast S64x325x2 (m ((c.tc : Thread nD τ).loc main_arg0)) shapeCasts_S64x650_S64x325x2 := by
    show StableHlo.after hostOps0 _ _ = _
    after_results_simp
    rfl
  rw [e]
  pointwise

/-- The state, one plane per batch. -/
theorem V_v23 (b : Fin 64) (n : Fin 325) (j : Fin 64) :
    V m c main_v23 (ix3 b n j) = m ((c.tc : Thread nD τ).loc main_arg1) (ix2 b ⟨n.val * 64 + j.val, by omega⟩) := by
  have e : V m c main_v23 = shapeCast S64x325x64 (m ((c.tc : Thread nD τ).loc main_arg1)) shapeCasts_S64x20800_S64x325x64 := by
    show StableHlo.after hostOps0 _ _ = _
    after_results_simp
    rfl
  rw [e]
  pointwise

/-- The fixed graph, transposed. -/
theorem V_v24 (a b : Fin 325) : V m c main_v24 (ix2 a b) = m ((c.tc : Thread nD τ).loc main_arg4) (ix2 b a) := by
  have e : V m c main_v24 = transpose S325x325 [1, 0] (m ((c.tc : Thread nD τ).loc main_arg4)) transposes_S325x325_S325x325_1_0 := by
    show StableHlo.after hostOps0 _ _ = _
    after_results_simp
  rw [e]
  pointwise

/-- The constant's elements are the coefficients. -/
theorem coefs_at (k : Fin 5) : coefs (ix1 k) = Cell.coef k := by
  have one : Ideal.ofBits .f32 0x3F800000#32 = 1 := Ideal.ofBits_one_f32
  match k with
  | 0 => exact one
  | 1 => exact one
  | 2 => rfl
  | 3 => rfl
  | 4 => rfl

/-- The gates' weights are laid out as the stacked views are. -/
theorem layG_laid (W : FVec Ideal S330x128 .f32) (o : Fin 128) :
    Block.Laid (fun p => layG W (ix2 o p)) (fun q => W (ix2 q o)) := by
  refine ⟨fun k j => ?_, fun k i => ?_, fun k i => ?_⟩ <;> pointwise [layG, stackG, scaledG, coefs_at]
  · rw [dif_pos (by omega)]
    blk_point []
  · rw [dif_neg (by omega), dif_pos (by omega)]
    blk_point []
  · rw [dif_neg (by omega), dif_neg (by omega)]

/-- The candidate's weights are laid out as the stacked views are. -/
theorem layC_laid (W : FVec Ideal S330x64 .f32) (o : Fin 64) :
    Block.Laid (fun p => layC W (ix2 o p)) (fun q => W (ix2 q o)) := by
  refine ⟨fun k j => ?_, fun k i => ?_, fun k i => ?_⟩ <;> pointwise [layC, stackC, scaledC, coefs_at]
  · rw [dif_pos (by omega)]
    blk_point []
  · rw [dif_neg (by omega), dif_pos (by omega)]
    blk_point []
  · rw [dif_neg (by omega), dif_neg (by omega)]

end Cert.KernelIdeal.Prep
-- ==== Proof.Value.lean ====
module

public import proofs.«01_k».proof.Proof.Prep

/-! # The kernel's result array -/

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

/-- What the body stores for a batch, of the blocks it loads. -/
def store (s : FVec Ideal S325x325 .f32) (a : FVec Ideal S1x325x325 .f32) (h : FVec Ideal S1x325x64 .f32)
    (i : FVec Ideal S1x325x2 .f32) (w : FVec Ideal S128x360 .f32) (wc : FVec Ideal S64x360 .f32) : FVec Ideal S1x325x64 .f32 :=
  k0_pay1 (k0_pay2 s) (k0_pay3 a) (k0_pay4 h) (k0_pay5 h i) w wc

/-- The output block's eight stores, each the same function of its batch's blocks. -/
def out (x0 : Vec Ideal S8x325x2 .f32) (x1 : Vec Ideal S8x325x64 .f32) (x2 : Vec Ideal S8x325x325 .f32) (x3 : Vec Ideal S325x325 .f32)
    (x4 : Vec Ideal S128x360 .f32) (x5 : Vec Ideal S64x360 .f32) : Vec Ideal S8x325x64 .f32 :=
  View.canon [⟨r0_25, store (View.ld x3 r0_0) (View.ld x2 r0_24) (View.ld x1 r0_25) (View.ld x0 r0_26) (View.ld x4 r0_4) (View.ld x5 r0_5)⟩,
    ⟨r0_22, store (View.ld x3 r0_0) (View.ld x2 r0_21) (View.ld x1 r0_22) (View.ld x0 r0_23) (View.ld x4 r0_4) (View.ld x5 r0_5)⟩,
    ⟨r0_19, store (View.ld x3 r0_0) (View.ld x2 r0_18) (View.ld x1 r0_19) (View.ld x0 r0_20) (View.ld x4 r0_4) (View.ld x5 r0_5)⟩,
    ⟨r0_16, store (View.ld x3 r0_0) (View.ld x2 r0_15) (View.ld x1 r0_16) (View.ld x0 r0_17) (View.ld x4 r0_4) (View.ld x5 r0_5)⟩,
    ⟨r0_13, store (View.ld x3 r0_0) (View.ld x2 r0_12) (View.ld x1 r0_13) (View.ld x0 r0_14) (View.ld x4 r0_4) (View.ld x5 r0_5)⟩,
    ⟨r0_10, store (View.ld x3 r0_0) (View.ld x2 r0_9) (View.ld x1 r0_10) (View.ld x0 r0_11) (View.ld x4 r0_4) (View.ld x5 r0_5)⟩,
    ⟨r0_7, store (View.ld x3 r0_0) (View.ld x2 r0_6) (View.ld x1 r0_7) (View.ld x0 r0_8) (View.ld x4 r0_4) (View.ld x5 r0_5)⟩,
    ⟨r0_2, store (View.ld x3 r0_0) (View.ld x2 r0_1) (View.ld x1 r0_2) (View.ld x0 r0_3) (View.ld x4 r0_4) (View.ld x5 r0_5)⟩]

/-- The block the body leaves is these eight stores. -/
theorem out_eq (x0 : Vec Ideal S8x325x2 .f32) (x1 : Vec Ideal S8x325x64 .f32) (x2 : Vec Ideal S8x325x325 .f32) (x3 : Vec Ideal S325x325 .f32)
    (x4 : Vec Ideal S128x360 .f32) (x5 : Vec Ideal S64x360 .f32) : out0_6 x0 x1 x2 x3 x4 x5 = out x0 x1 x2 x3 x4 x5 := rfl

/-- A batch's store is the cell of the arrays its blocks read. -/
theorem store_at {s : FVec Ideal S325x325 .f32} {a : FVec Ideal S1x325x325 .f32} {h : FVec Ideal S1x325x64 .f32}
    {i : FVec Ideal S1x325x2 .f32} {w : FVec Ideal S128x360 .f32} {wc : FVec Ideal S64x360 .f32}
    {A S : Fin 325 → Fin 325 → EReal} {inp : Fin 325 → Fin 2 → EReal} {H : Fin 325 → Fin 64 → EReal}
    {W : Fin 330 → Fin 128 → EReal} {Wc : Fin 330 → Fin 64 → EReal}
    (hs : ∀ p q : Fin 325, s (ix2 p q) = S q p) (ha : ∀ p q : Fin 325, a (ix3 0 p q) = A p q)
    (hh : ∀ (n : Fin 325) (j : Fin 64), h (ix3 0 n j) = H n j) (hi : ∀ (n : Fin 325) (j : Fin 2), i (ix3 0 n j) = inp n j)
    (hw : ∀ o, Block.Laid (fun p => w (ix2 o p)) (fun q => W q o)) (hwc : ∀ o, Block.Laid (fun p => wc (ix2 o p)) (fun q => Wc q o))
    (n : Fin 325) (j : Fin 64) :
    store s a h i w wc (ix3 0 n j) = Cell.cell (Cell.conv A S) inp H W Wc n j := by
  have e2 : (fun p q : Fin 325 => k0_pay2 (F := Ideal) s (ix2 q p)) = S := funext fun p => funext fun q => by
    pointwise [k0_pay2]
    exact hs q p
  have e3 : (fun p q : Fin 325 => k0_pay3 (F := Ideal) a (ix2 p q)) = A := funext fun p => funext fun q => by
    pointwise [k0_pay3]
    exact ha p q
  have e4 : ∀ (j : Fin 64) (n : Fin 325), k0_pay4 (F := Ideal) h (ix2 j n) = H n j := fun j n => by
    pointwise [k0_pay4]
    exact hh n j
  have e5 : Block.Rows (k0_pay5 (F := Ideal) h i) inp H := by
    refine ⟨fun j n => ?_, fun j n => ?_⟩
    · pointwise [k0_pay5, k0_pay4]
      exact hh n j
    · pointwise [k0_pay5, k0_pay4]
      exact hi n j
  have ew : ∀ o, Block.Laid (fun p => shapeCast S128x360 w shapeCasts_S128x360_S128x360 (ix2 o p)) (fun q => W q o) := fun o => by
    pointwise
    exact hw o
  have ewc : ∀ o, Block.Laid (fun p => shapeCast S64x360 wc shapeCasts_S64x360_S64x360 (ix2 o p)) (fun q => Wc q o) := fun o => by
    pointwise
    exact hwc o
  unfold store
  rw [Block.pay_eq, Block.block_at _ _ ew ewc e5 e4 n j, e2, e3]

variable (m : (ℓ : Loc nD τ sig) → Buf (Elt Ideal) ℓ)

/-- The cells' new states, one plane per batch. -/
def G3 (a0 : FVec Ideal S64x650 .f32) (a1 : FVec Ideal S64x20800 .f32) (a3 : FVec Ideal S64x325x325 .f32) (a4 : FVec Ideal S325x325 .f32)
    (a5 : FVec Ideal S330x128 .f32) (a6 : FVec Ideal S330x64 .f32) : FVec Ideal S64x325x64 .f32 := fun i =>
  Cell.cell (Cell.conv (fun p q => a3 (ix3 (i 0) p q)) (fun p q => a4 (ix2 p q)))
    (fun n j => a0 (ix2 (i 0) ⟨n.val * 2 + j.val, by omega⟩)) (fun n j => a1 (ix2 (i 0) ⟨n.val * 64 + j.val, by omega⟩))
    (fun q o => a5 (ix2 q o)) (fun q o => a6 (ix2 q o)) (i 1) (i 2)

/-- A batch's store is the cells' new state at its batch, when its blocks are that batch's. -/
theorem store_G3 (a0 : FVec Ideal S64x650 .f32) (a1 : FVec Ideal S64x20800 .f32) (a3 : FVec Ideal S64x325x325 .f32) (a4 : FVec Ideal S325x325 .f32)
    (a5 : FVec Ideal S330x128 .f32) (a6 : FVec Ideal S330x64 .f32) (b : Fin 64)
    {s : FVec Ideal S325x325 .f32} {a : FVec Ideal S1x325x325 .f32} {h : FVec Ideal S1x325x64 .f32}
    {i : FVec Ideal S1x325x2 .f32} {w : FVec Ideal S128x360 .f32} {wc : FVec Ideal S64x360 .f32}
    (hs : ∀ p q : Fin 325, s (ix2 p q) = a4 (ix2 q p)) (ha : ∀ p q : Fin 325, a (ix3 0 p q) = a3 (ix3 b p q))
    (hh : ∀ (n : Fin 325) (j : Fin 64), h (ix3 0 n j) = a1 (ix2 b ⟨n.val * 64 + j.val, by omega⟩))
    (hi : ∀ (n : Fin 325) (j : Fin 2), i (ix3 0 n j) = a0 (ix2 b ⟨n.val * 2 + j.val, by omega⟩))
    (hw : ∀ (o : Fin 128) (p : Fin 360), w (ix2 o p) = Prep.layG a5 (ix2 o p))
    (hwc : ∀ (o : Fin 64) (p : Fin 360), wc (ix2 o p) = Prep.layC a6 (ix2 o p)) (n : Fin 325) (j : Fin 64) :
    store s a h i w wc (ix3 0 n j) = G3 a0 a1 a3 a4 a5 a6 (ix3 b n j) :=
  store_at hs ha hh hi (fun o => by simp only [hw]; exact Prep.layG_laid a5 o) (fun o => by simp only [hwc]; exact Prep.layC_laid a6 o) n j

/-- Every window's block index, at every grid point. -/
theorem idx : ∀ t : Fin cfg0.N, win0_0.index t = ![t.val, 0, 0] ∧ win0_1.index t = ![t.val, 0, 0] ∧ win0_2.index t = ![t.val, 0, 0]
    ∧ win0_3.index t = ![0, 0] ∧ win0_4.index t = ![0, 0] ∧ win0_5.index t = ![0, 0] ∧ win0_6.index t = ![t.val, 0, 0] :=
  (by decide +kernel : ∀ t : Fin grid0.N, _)

/-- The fixed graph's block holds its transpose, at every step. -/
theorem read_support (c : Dev nD) (t : Fin cfg0.N) (p q : Fin 325) : iblk m c 3 t (ix2 p q) = m ((c.tc : Thread nD τ).loc main_arg4) (ix2 q p) := by
  refine Eq.trans ?_ (Prep.V_v24 m c p q)
  blk_ext [iblk, idx t]

/-- A step's graphs are its own eight batches'. -/
theorem read_adp (c : Dev nD) (t : Fin cfg0.N) (r : Fin 8) (b : Fin 64) (hb : (b : ℕ) = t.val * 8 + r) (p q : Fin 325) :
    iblk m c 2 t (ix3 r p q) = m ((c.tc : Thread nD τ).loc main_arg3) (ix3 b p q) := by
  refine Eq.trans ?_ (congrFun (V_main_arg3 m c) (ix3 b p q))
  blk_ext [iblk, idx t]

/-- A step's states are its own eight batches'. -/
theorem read_state (c : Dev nD) (t : Fin cfg0.N) (r : Fin 8) (b : Fin 64) (hb : (b : ℕ) = t.val * 8 + r) (n : Fin 325) (j : Fin 64) :
    iblk m c 1 t (ix3 r n j) = m ((c.tc : Thread nD τ).loc main_arg1) (ix2 b ⟨n.val * 64 + j.val, by omega⟩) := by
  refine Eq.trans ?_ (Prep.V_v23 m c b n j)
  blk_ext [iblk, idx t]

/-- A step's inputs are its own eight batches'. -/
theorem read_input (c : Dev nD) (t : Fin cfg0.N) (r : Fin 8) (b : Fin 64) (hb : (b : ℕ) = t.val * 8 + r) (n : Fin 325) (j : Fin 2) :
    iblk m c 0 t (ix3 r n j) = m ((c.tc : Thread nD τ).loc main_arg0) (ix2 b ⟨n.val * 2 + j.val, by omega⟩) := by
  refine Eq.trans ?_ (Prep.V_v22 m c b n j)
  blk_ext [iblk, idx t]

/-- The gates' weights are laid out whole, at every step. -/
theorem read_wg (c : Dev nD) (t : Fin cfg0.N) (o : Fin 128) (p : Fin 360) : iblk m c 4 t (ix2 o p) = Prep.layG (m ((c.tc : Thread nD τ).loc main_arg5)) (ix2 o p) := by
  refine Eq.trans ?_ (congrFun (Prep.V_v10 m c) (ix2 o p))
  blk_ext [iblk, idx t]

/-- The candidate's weights are laid out whole, at every step. -/
theorem read_wc (c : Dev nD) (t : Fin cfg0.N) (o : Fin 64) (p : Fin 360) : iblk m c 5 t (ix2 o p) = Prep.layC (m ((c.tc : Thread nD τ).loc main_arg6)) (ix2 o p) := by
  refine Eq.trans ?_ (congrFun (Prep.V_v21 m c) (ix2 o p))
  blk_ext [iblk, idx t]

set_option maxHeartbeats 4000000 in
/-- Every element the body leaves is the cell's at its place in the array. -/
theorem point (c : Dev nD) (t : Fin cfg0.N) (y : S8x325x64.Idx) (i : S64x325x64.Idx) (hi0 : (i 0 : ℕ) = t.val * 8 + y 0)
    (hi1 : (i 1 : ℕ) = y 1) (hi2 : (i 2 : ℕ) = y 2) :
    out (iblk m c 0 t) (iblk m c 1 t) (iblk m c 2 t) (iblk m c 3 t) (iblk m c 4 t) (iblk m c 5 t) y
      = G3 (m ((c.tc : Thread nD τ).loc main_arg0)) (m ((c.tc : Thread nD τ).loc main_arg1)) (m ((c.tc : Thread nD τ).loc main_arg3))
          (m ((c.tc : Thread nD τ).loc main_arg4)) (m ((c.tc : Thread nD τ).loc main_arg5)) (m ((c.tc : Thread nD τ).loc main_arg6)) i := by
  unfold out
  idx_vars i
  canon_tiles x h
  all_goals
    idx_vars x
    obtain rfl := Fin.eq_zero x0
    obtain rfl : i1 = x1 := Fin.ext (hi1.trans h1)
    obtain rfl : i2 = x2 := Fin.ext (hi2.trans h2)
    refine store_G3 _ _ _ _ _ _ i0 (fun p q => ?_) (fun p q => ?_) (fun n j => ?_) (fun n j => ?_) (fun o p => ?_) (fun o p => ?_) i1 i2
    all_goals pointwise
    · exact read_support m c t p q
    · exact read_adp m c t _ i0 (hi0.trans (congrArg (t.val * 8 + ·) h0)) p q
    · exact read_state m c t _ i0 (hi0.trans (congrArg (t.val * 8 + ·) h0)) n j
    · exact read_input m c t _ i0 (hi0.trans (congrArg (t.val * 8 + ·) h0)) n j
    · exact read_wg m c t o p
    · exact read_wc m c t o p

/-- The result array after the grid. -/
theorem final (c : Dev nD) : (dats m 0 c).arrAt 6 (cfgs 0).N
    = G3 (m ((c.tc : Thread nD τ).loc main_arg0)) (m ((c.tc : Thread nD τ).loc main_arg1)) (m ((c.tc : Thread nD τ).loc main_arg3))
        (m ((c.tc : Thread nD τ).loc main_arg4)) (m ((c.tc : Thread nD τ).loc main_arg5)) (m ((c.tc : Thread nD τ).loc main_arg6)) := by
  refine (dats m 0 c).arrAt_eq_of_covers 6 _ (by decide +kernel) fun t _ y => ?_
  blk_simp
  rw [after0_6, out_eq]
  refine point m c t y _ ?_ ?_ ?_ <;> (blk_simp [idx t] <;> try omega)

end Cert.KernelIdeal.Value
-- ==== Proof.Result.lean ====
module

public import proofs.«01_k».proof.Proof.Value
public import Idealize.ShloMosaic.Lib.Claim

/-! # What the kernel's run ends holding -/

@[expose] public section

set_option maxRecDepth 16384

noncomputable section

namespace Cert.KernelIdeal.Value

open Cert.KernelIdeal Cert.KernelIdeal.Gen Idealize.ShloMosaic Idealize.ShloMosaic.TcCoe Idealize.SL.Sem

variable (m : (ℓ : Loc nD τ sig) → Buf (Elt Ideal) ℓ)

/-- The new states, one row per batch. -/
def result (c : Dev nD) : FVec Ideal S64x20800 .f32 :=
  shapeCast S64x20800 (G3 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))) shapeCasts_S64x325x64_S64x20800

/-- The operation after the grid relays the grid's result, one row per batch. -/
theorem tail (c : Dev nD) : Pipeline.afterTail₀ cfgs (dats m) 0 (V0 m) [hostOps1] c main_v26 = result m c := by
  unfold Pipeline.afterTail₀ result
  rw [← final m c]
  show StableHlo.after hostOps1 _ _ = _
  after_results_simp
  exact congrArg (fun x => shapeCast S64x20800 x shapeCasts_S64x325x64_S64x20800)
    (Pipeline.withArrays_arr spec0 (by decide) c (V0 m c) (fun w => (dats m 0 c).arrAt w (cfgs 0).N) 6)

/-- The kernel's run ends with the new states in its result array and its arguments as they were. -/
theorem run (g : Dev nD → PrngReg) : θ_run defs (onTc (τ := τ) (main (F := Ideal))) ⟨m, fun _ => 0, g⟩ fun r => ∀ c : Dev nD,
    r.2.mem ((c.tc : Thread nD τ).loc main_v26) = result m c
    ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono
    (fun _ h c => ⟨((h.1 c).2 main_v26 (Pipeline.mem_restRefs_of main_v26 (by decide) (by decide))).trans (tail m c), h.2 c⟩)
    (θ_run_and (run_main m g) (unchanged m g))

end Cert.KernelIdeal.Value
-- ==== Proof.RefTerm.lean ====
module

public import proofs.«01_k».proof.Proof.Gen.ReferenceIdeal.Run
public import Idealize.ShloMosaic.Lib.Pointwise
public import Idealize.ShloMosaic.Lib.Pipeline.ValueKit

/-! # The reference's operations, by stages -/

@[expose] public section

set_option maxRecDepth 16384

noncomputable section

namespace Cert.ReferenceIdeal.Stages

open Cert.ReferenceIdeal Cert.ReferenceIdeal.Gen Idealize.ShloMosaic Idealize.ShloMosaic.TcCoe Idealize.SL.Sem

/-- The feature rows, two inputs and then the state, of every batch and node. -/
def rows (i : FVec Ideal S64x650 .f32) (h : FVec Ideal S64x20800 .f32) : FVec Ideal S325x4224 .f32 :=
  shapeCast S325x4224 (transpose S325x66x64 [1, 2, 0]
    (concatenate S64x325x66 2 [⟨S64x325x2, shapeCast S64x325x2 i shapeCasts_S64x650_S64x325x2⟩,
      ⟨S64x325x64, shapeCast S64x325x64 h shapeCasts_S64x20800_S64x325x64⟩] concatenates_S64x325x2_S64x325x64_S64x325x66_d2)
    transposes_S64x325x66_S325x66x64_1_2_0) shapeCasts_S325x66x64_S325x4224

/-- One view of the rows along a per-batch graph. -/
def along (a : FVec Ideal S64x325x325 .f32) (x : FVec Ideal S325x4224 .f32) : FVec Ideal S325x4224 .f32 :=
  shapeCast S325x4224 (transpose S325x66x64 [1, 2, 0]
    (Host.dotGeneral dot_S64x325x325_S64x325x66_S64x325x66_2_1_1_2_0_0 none a
      (transpose S64x325x66 [2, 0, 1] (shapeCast S325x66x64 x shapeCasts_S325x4224_S325x66x64) transposes_S325x66x64_S64x325x66_2_0_1))
    transposes_S64x325x66_S325x66x64_1_2_0) shapeCasts_S325x66x64_S325x4224

/-- A graph's square, or the product of two. -/
def times (a b : FVec Ideal S64x325x325 .f32) : FVec Ideal S64x325x325 .f32 :=
  Host.dotGeneral dot_S64x325x325_S64x325x325_S64x325x325_2_1_1_2_0_0 none a b

/-- A graph scaled by a constant. -/
def scaled (b : BitVec 32) (a : FVec Ideal S64x325x325 .f32) : FVec Ideal S64x325x325 .f32 :=
  mulf (broadcastInDim S64x325x325 ![] bcast_S_S64x325x325 (constant (F := Ideal) S_ .f32 b)) a

/-- A view as one plane of a stack. -/
def plane (x : FVec Ideal S325x4224 .f32) : FVec Ideal S1x325x4224 .f32 :=
  broadcastInDim S1x325x4224 ![1, 2] bcast_S325x4224_S1x325x4224_1_2 x

/-- Five planes stacked. -/
def stack (a b c d e : FVec Ideal S1x325x4224 .f32) : FVec Ideal S5x325x4224 .f32 :=
  concatenate S5x325x4224 0 [⟨S1x325x4224, a⟩, ⟨S1x325x4224, b⟩, ⟨S1x325x4224, c⟩, ⟨S1x325x4224, d⟩, ⟨S1x325x4224, e⟩]
    concatenates_S1x325x4224_S1x325x4224_S1x325x4224_S1x325x4224_S1x325x4224_S5x325x4224_d0

/-- A stack of views, relaid with one line per batch and node. -/
def lines (y : FVec Ideal S5x325x4224 .f32) : FVec Ideal S20800x330 .f32 :=
  shapeCast S20800x330 (transpose S64x325x66x5 [3, 1, 2, 0] (shapeCast S5x325x66x64 y
    shapeCasts_S5x325x4224_S5x325x66x64) transposes_S5x325x66x64_S64x325x66x5_3_1_2_0) shapeCasts_S64x325x66x5_S20800x330

/-- The five views of the rows, one line per batch and node. -/
def views (x : FVec Ideal S325x4224 .f32) (A : FVec Ideal S64x325x325 .f32) (S : FVec Ideal S325x325 .f32) : FVec Ideal S20800x330 .f32 :=
  lines (stack (plane x) (plane (Host.dotGeneral dot_S325x325_S325x4224_S325x4224_1_0_0_1_n_n none S x))
    (plane (along (scaled 0x3D428F5C#32 A) x)) (plane (along (scaled 0x3D38D4FE#32 (times A A)) x))
    (plane (along (scaled 0x3F5B7CEE#32 (times (times A A) A)) x)))

/-- Lines weighted by the gates' weights. -/
def weighG (v : FVec Ideal S20800x330 .f32) (W : FVec Ideal S330x128 .f32) : FVec Ideal S20800x128 .f32 :=
  Host.dotGeneral dot_S20800x330_S330x128_S20800x128_1_0_0_1_n_n none v W

/-- Lines weighted by the candidate's weights. -/
def weighC (v : FVec Ideal S20800x330 .f32) (W : FVec Ideal S330x64 .f32) : FVec Ideal S20800x64 .f32 :=
  Host.dotGeneral dot_S20800x330_S330x64_S20800x64_1_0_0_1_n_n none v W

/-- The logistic function of every weighted line, written out. -/
def squash (z : FVec Ideal S20800x128 .f32) : FVec Ideal S64x325x128 .f32 :=
  let one : FVec Ideal S64x41600 .f32 := broadcastInDim S64x41600 ![] bcast_S_S64x41600 (constant (F := Ideal) S_ .f32 0x3F800000#32)
  shapeCast S64x325x128 (Host.divf one (addf one (Host.exp (Host.negf (shapeCast S64x41600 z shapeCasts_S20800x128_S64x41600)))))
    shapeCasts_S64x41600_S64x325x128

/-- A state times the first half of the gates. -/
def damp (g : FVec Ideal S64x325x128 .f32) (h : FVec Ideal S64x20800 .f32) : FVec Ideal S64x20800 .f32 :=
  mulf (shapeCast S64x20800 (extractStridedSlice S64x325x64 ![0, 0, 0] g slices_S64x325x128_S64x325x64_0_0_0)
    shapeCasts_S64x325x64_S64x20800) h

/-- A state and weighted lines, mixed by the second half of the gates. -/
def mix (g : FVec Ideal S64x325x128 .f32) (h : FVec Ideal S64x20800 .f32) (z : FVec Ideal S20800x64 .f32) : FVec Ideal S64x20800 .f32 :=
  let u : FVec Ideal S64x20800 .f32 :=
    shapeCast S64x20800 (extractStridedSlice S64x325x64 ![0, 0, 64] g slices_S64x325x128_S64x325x64_0_0_64)
      shapeCasts_S64x325x64_S64x20800
  addf (mulf u h) (mulf (subf (broadcastInDim S64x20800 ![] bcast_S_S64x20800 (constant (F := Ideal) S_ .f32 0x3F800000#32)) u)
    (Host.tanh (shapeCast S64x20800 z shapeCasts_S20800x64_S64x20800)))

/-- Both gates. -/
def gates (i : FVec Ideal S64x650 .f32) (h : FVec Ideal S64x20800 .f32) (A : FVec Ideal S64x325x325 .f32) (S : FVec Ideal S325x325 .f32)
    (W : FVec Ideal S330x128 .f32) : FVec Ideal S64x325x128 .f32 :=
  squash (weighG (views (rows i h) A S) W)

/-- The damped state. -/
def damped (i : FVec Ideal S64x650 .f32) (h : FVec Ideal S64x20800 .f32) (A : FVec Ideal S64x325x325 .f32) (S : FVec Ideal S325x325 .f32)
    (W : FVec Ideal S330x128 .f32) : FVec Ideal S64x20800 .f32 :=
  damp (gates i h A S W) h

/-- The new state. -/
def whole (i : FVec Ideal S64x650 .f32) (h : FVec Ideal S64x20800 .f32) (A : FVec Ideal S64x325x325 .f32) (S : FVec Ideal S325x325 .f32)
    (W : FVec Ideal S330x128 .f32) (Wc : FVec Ideal S330x64 .f32) : FVec Ideal S64x20800 .f32 :=
  mix (gates i h A S W) h (weighC (views (rows i (damped i h A S W)) A S) Wc)

variable (m : (ℓ : Loc nD τ sig) → Buf (Elt Ideal) ℓ)

/-- The reference's result is the new state of its arguments. -/
theorem res_eq (c : Dev nD) : Value.res_main_v97 m c = whole (m ((c.tc : Thread nD τ).loc main_arg0)) (m ((c.tc : Thread nD τ).loc main_arg1))
    (m ((c.tc : Thread nD τ).loc main_arg3)) (m ((c.tc : Thread nD τ).loc main_arg4)) (m ((c.tc : Thread nD τ).loc main_arg5))
    (m ((c.tc : Thread nD τ).loc main_arg6)) := rfl

end Cert.ReferenceIdeal.Stages
-- ==== Proof.RefRead.lean ====
module

public import proofs.«01_k».proof.Proof.RefTerm
public import proofs.«01_k».proof.Proof.Spec
public import Idealize.ShloMosaic.Lib.Pointwise
public import Idealize.ShloMosaic.Lib.Pipeline.ValueKit

/-! # The reference's relayouts and products, read at an entry -/

@[expose] public section

set_option maxRecDepth 16384

noncomputable section

namespace Cert.ReferenceIdeal.Stages

open Cert.ReferenceIdeal Cert.ReferenceIdeal.Gen Idealize.ShloMosaic Idealize.ShloMosaic.TcCoe Idealize.SL.Sem

/-- Feature `f` of batch `b` among the columns of the rows. -/
abbrev col (f : Fin 66) (b : Fin 64) : Fin 4224 := ⟨f.val * 64 + b.val, by omega⟩

/-- The rows are the cell's feature rows. -/
theorem rows_at (i : FVec Ideal S64x650 .f32) (h : FVec Ideal S64x20800 .f32) (n : Fin 325) (f : Fin 66) (b : Fin 64) :
    rows i h (ix2 n (col f b)) = Cell.feat (fun n j => i (ix2 b ⟨n.val * 2 + j.val, by omega⟩))
      (fun n j => h (ix2 b ⟨n.val * 64 + j.val, by omega⟩)) f n := by
  pointwise [rows, Cell.feat]
  have hb := b.isLt
  have e1 : (f.val * 64 + b.val) / 64 = f.val := by omega
  have e2 : (f.val * 64 + b.val) % 64 = b.val := by omega
  simp only [e1, e2]

/-- A view along a per-batch graph, read at a node. -/
theorem along_at (a : FVec Ideal S64x325x325 .f32) (x : FVec Ideal S325x4224 .f32) (n : Fin 325) (f : Fin 66) (b : Fin 64) :
    along a x (ix2 n (col f b)) = ∑ k : Fin 325, a (ix3 b n k) * x (ix2 k (col f b)) := by
  pointwise [along]
  have hb := b.isLt
  have e1 : (f.val * 64 + b.val) / 64 = f.val := by omega
  have e2 : (f.val * 64 + b.val) % 64 = b.val := by omega
  simp only [e1, e2]

/-- The line of batch `b`, node `n`. -/
abbrev line (b : Fin 64) (n : Fin 325) : Fin 20800 := ⟨b.val * 325 + n.val, by omega⟩

/-- A line holds every view of its batch and node, features outermost. -/
theorem lines_at (y : FVec Ideal S5x325x4224 .f32) (b : Fin 64) (n : Fin 325) (f : Fin 66) (k : Fin 5) :
    lines y (ix2 (line b n) (Cell.row f k)) = y (ix3 k n (col f b)) := by
  pointwise [lines]
  have hn := n.isLt
  have hk := k.isLt
  have e1 : (b.val * 325 + n.val) / 325 = b.val := by omega
  have e2 : (b.val * 325 + n.val) % 325 = n.val := by omega
  have e3 : (f.val * 5 + k.val) / 5 = f.val := by omega
  have e4 : (f.val * 5 + k.val) % 5 = k.val := by omega
  simp only [e1, e2, e3, e4]

/-- A stack's planes, in order. -/
theorem stack_at (a b c d e : FVec Ideal S325x4224 .f32) (k : Fin 5) (n : Fin 325) (q : Fin 4224) :
    stack (plane a) (plane b) (plane c) (plane d) (plane e) (ix3 k n q) = (![a, b, c, d, e] k) (ix2 n q) := by
  pointwise [stack, plane]
  match k with
  | 0 => rfl
  | 1 => rfl
  | 2 => rfl
  | 3 => rfl
  | 4 => rfl

/-- A scaled graph's entries. -/
theorem scaled_at (w : BitVec 32) (a : FVec Ideal S64x325x325 .f32) (b : Fin 64) (p q : Fin 325) :
    scaled w a (ix3 b p q) = Ideal.ofBits .f32 w * a (ix3 b p q) := by
  pointwise [scaled]

/-- A product of graphs' entries. -/
theorem times_at (a a' : FVec Ideal S64x325x325 .f32) (b : Fin 64) (p q : Fin 325) :
    times a a' (ix3 b p q) = ∑ r : Fin 325, a (ix3 b p r) * a' (ix3 b r q) := by
  pointwise [times]

/-- The view along the fixed graph, at a node. -/
theorem fixed_at (S : FVec Ideal S325x325 .f32) (x : FVec Ideal S325x4224 .f32) (n : Fin 325) (q : Fin 4224) :
    Host.dotGeneral dot_S325x325_S325x4224_S325x4224_1_0_0_1_n_n none S x (ix2 n q) = ∑ r : Fin 325, S (ix2 n r) * x (ix2 r q) := by
  pointwise

/-- Weighted lines' entries, for the gates. -/
theorem weighG_at (v : FVec Ideal S20800x330 .f32) (W : FVec Ideal S330x128 .f32) (l : Fin 20800) (o : Fin 128) :
    weighG v W (ix2 l o) = ∑ q : Fin 330, v (ix2 l q) * W (ix2 q o) := by
  pointwise [weighG]

/-- Weighted lines' entries, for the candidate. -/
theorem weighC_at (v : FVec Ideal S20800x330 .f32) (W : FVec Ideal S330x64 .f32) (l : Fin 20800) (o : Fin 64) :
    weighC v W (ix2 l o) = ∑ q : Fin 330, v (ix2 l q) * W (ix2 q o) := by
  pointwise [weighC]

/-- The squashed lines' entries are logistic values. -/
theorem squash_at (z : FVec Ideal S20800x128 .f32) (b : Fin 64) (n : Fin 325) (o : Fin 128) :
    squash z (ix3 b n o) = Ideal.logistic (z (ix2 (line b n) o)) := by
  pointwise [squash]
  have ho := o.isLt
  have e : (n.val * 128 + o.val) / 128 = n.val := by omega
  simp only [e]
  rfl

/-- A damped state's entries. -/
theorem damp_at (g : FVec Ideal S64x325x128 .f32) (h : FVec Ideal S64x20800 .f32) (b : Fin 64) (n : Fin 325) (j : Fin 64) :
    damp g h (ix2 b ⟨n.val * 64 + j.val, by omega⟩) = g (ix3 b n ⟨j.val, by omega⟩) * h (ix2 b ⟨n.val * 64 + j.val, by omega⟩) := by
  pointwise [damp]

/-- A mixed state's entries. -/
theorem mix_at (g : FVec Ideal S64x325x128 .f32) (h : FVec Ideal S64x20800 .f32) (z : FVec Ideal S20800x64 .f32) (b : Fin 64) (n : Fin 325)
    (j : Fin 64) :
    mix g h z (ix2 b ⟨n.val * 64 + j.val, by omega⟩) = g (ix3 b n ⟨64 + j.val, by omega⟩) * h (ix2 b ⟨n.val * 64 + j.val, by omega⟩)
      + (1 - g (ix3 b n ⟨64 + j.val, by omega⟩)) * Ideal.tanh (z (ix2 (line b n) j)) := by
  pointwise [mix]
  have hj := j.isLt
  have e : (n.val * 64 + j.val) / 64 = n.val := by omega
  simp only [e]

end Cert.ReferenceIdeal.Stages
-- ==== Proof.RefViews.lean ====
module

public import proofs.«01_k».proof.Proof.RefRead
public import proofs.«01_k».proof.Proof.Spec
public import Idealize.ShloMosaic.Lib.Pointwise
public import Idealize.ShloMosaic.Lib.Pipeline.ValueKit

/-! # The reference's five views and their weighted sums -/

@[expose] public section

set_option maxRecDepth 16384

noncomputable section

namespace Cert.ReferenceIdeal.Stages

open Cert.ReferenceIdeal Cert.ReferenceIdeal.Gen Idealize.ShloMosaic Idealize.ShloMosaic.TcCoe Idealize.SL.Sem

/-- The lines hold the five views. -/
theorem views_at (x : FVec Ideal S325x4224 .f32) (A : FVec Ideal S64x325x325 .f32) (S : FVec Ideal S325x325 .f32) (b : Fin 64)
    (n : Fin 325) (f : Fin 66) (k : Fin 5) :
    views x A S (ix2 (line b n) (Cell.row f k)) = Cell.rtap (fun p q => A (ix3 b p q)) (fun p q => S (ix2 p q)) (fun p => x (ix2 p (col f b))) k n := by
  unfold views
  rw [lines_at, stack_at]
  match k with
  | 0 => rfl
  | 1 => exact fixed_at S x n (col f b)
  | 2 =>
    refine (along_at _ x n f b).trans ?_
    simp only [scaled_at]
    rfl
  | 3 =>
    refine (along_at _ x n f b).trans ?_
    simp only [scaled_at, times_at]
    rfl
  | 4 =>
    refine (along_at _ x n f b).trans ?_
    simp only [scaled_at, times_at]
    rfl

/-- A weighted sum over a line is the convolution. -/
theorem conv_at (i : FVec Ideal S64x650 .f32) (h : FVec Ideal S64x20800 .f32) (A : FVec Ideal S64x325x325 .f32) (S : FVec Ideal S325x325 .f32)
    (W : Fin 330 → EReal) (b : Fin 64) (n : Fin 325) :
    ∑ q : Fin 330, views (rows i h) A S (ix2 (line b n) q) * W q
      = Cell.rconv (fun p q => A (ix3 b p q)) (fun p q => S (ix2 p q)) (Cell.feat (fun n j => i (ix2 b ⟨n.val * 2 + j.val, by omega⟩))
          (fun n j => h (ix2 b ⟨n.val * 64 + j.val, by omega⟩))) W n := by
  rw [Fin.sum_univ_tiles 66 5 rfl]
  refine Finset.sum_congr rfl fun f _ => Finset.sum_congr rfl fun k _ => ?_
  have e : (fun p => rows i h (ix2 p (col f b))) = Cell.feat (fun n j => i (ix2 b ⟨n.val * 2 + j.val, by omega⟩))
      (fun n j => h (ix2 b ⟨n.val * 64 + j.val, by omega⟩)) f := funext fun p => rows_at i h p f b
  refine congrArg (· * W (Cell.row f k)) ?_
  rw [← e]
  exact views_at (rows i h) A S b n f k

end Cert.ReferenceIdeal.Stages
-- ==== Proof.Ref.lean ====
module

public import proofs.«01_k».proof.Proof.RefViews

/-! # What the reference computes -/

@[expose] public section

set_option maxRecDepth 16384

noncomputable section

namespace Cert.ReferenceIdeal.Stages

open Cert.ReferenceIdeal Cert.ReferenceIdeal.Gen Idealize.ShloMosaic Idealize.ShloMosaic.TcCoe Idealize.SL.Sem

section
variable (i : FVec Ideal S64x650 .f32) (h : FVec Ideal S64x20800 .f32) (A : FVec Ideal S64x325x325 .f32) (S : FVec Ideal S325x325 .f32)
  (W : FVec Ideal S330x128 .f32) (Wc : FVec Ideal S330x64 .f32)

/-- The gates are the cell's. -/
theorem gates_at (b : Fin 64) (n : Fin 325) (o : Fin 128) :
    gates i h A S W (ix3 b n o) = Cell.gate (Cell.rconv (fun p q => A (ix3 b p q)) (fun p q => S (ix2 p q)))
      (fun n j => i (ix2 b ⟨n.val * 2 + j.val, by omega⟩)) (fun n j => h (ix2 b ⟨n.val * 64 + j.val, by omega⟩)) (fun q o => W (ix2 q o)) n o := by
  unfold gates
  rw [squash_at, weighG_at, conv_at i h A S (fun q => W (ix2 q o)) b n]
  rfl

/-- The damped state is the cell's. -/
theorem damped_at (b : Fin 64) (n : Fin 325) (j : Fin 64) :
    damped i h A S W (ix2 b ⟨n.val * 64 + j.val, by omega⟩) = Cell.damped (Cell.rconv (fun p q => A (ix3 b p q)) (fun p q => S (ix2 p q)))
      (fun n j => i (ix2 b ⟨n.val * 2 + j.val, by omega⟩)) (fun n j => h (ix2 b ⟨n.val * 64 + j.val, by omega⟩)) (fun q o => W (ix2 q o)) n j := by
  unfold damped
  rw [damp_at, gates_at]
  rfl

/-- The reference's result is the cell, with the coefficients in the graph's powers. -/
theorem whole_at (b : Fin 64) (n : Fin 325) (j : Fin 64) :
    whole i h A S W Wc (ix2 b ⟨n.val * 64 + j.val, by omega⟩) = Cell.cell (Cell.rconv (fun p q => A (ix3 b p q)) (fun p q => S (ix2 p q)))
      (fun n j => i (ix2 b ⟨n.val * 2 + j.val, by omega⟩)) (fun n j => h (ix2 b ⟨n.val * 64 + j.val, by omega⟩)) (fun q o => W (ix2 q o))
      (fun q o => Wc (ix2 q o)) n j := by
  unfold whole
  rw [mix_at, weighC_at, conv_at i (damped i h A S W) A S (fun q => Wc (ix2 q j)) b n, gates_at]
  simp only [damped_at]
  rfl

end

end Cert.ReferenceIdeal.Stages
-- ==== Proof.Join.lean ====
module

public import proofs.«01_k».proof.Proof.Value
public import proofs.«01_k».proof.Proof.Ref

/-! # The kernel's result is the reference's, on real inputs, states and graphs -/

@[expose] public section

set_option maxRecDepth 16384

noncomputable section

namespace Cert.Join

open Cert.KernelIdeal Cert.KernelIdeal.Gen Idealize.ShloMosaic

/-- The new states relaid one row per batch are the reference's result, when the inputs, the states and the graphs are real. -/
theorem result_eq (a0 : FVec Ideal S64x650 .f32) (a1 : FVec Ideal S64x20800 .f32) (a3 : FVec Ideal S64x325x325 .f32) (a4 : FVec Ideal S325x325 .f32)
    (a5 : FVec Ideal S330x128 .f32) (a6 : FVec Ideal S330x64 .f32) (h0 : ∀ i, Cell.Real' (a0 i)) (h1 : ∀ i, Cell.Real' (a1 i))
    (h3 : ∀ i, Cell.Real' (a3 i)) :
    Cert.ReferenceIdeal.Stages.whole a0 a1 a3 a4 a5 a6
      = shapeCast S64x20800 (Cert.KernelIdeal.Value.G3 a0 a1 a3 a4 a5 a6) shapeCasts_S64x325x64_S64x20800 := by
  funext i
  idx_vars i
  obtain ⟨n, j, rfl⟩ : ∃ (n : Fin 325) (j : Fin 64), i1 = ⟨n.val * 64 + j.val, by omega⟩ :=
    ⟨⟨i1.val / 64, by omega⟩, ⟨i1.val % 64, by omega⟩, Fin.ext (by show i1.val = i1.val / 64 * 64 + i1.val % 64; omega)⟩
  have hr : shapeCast S64x20800 (Cert.KernelIdeal.Value.G3 a0 a1 a3 a4 a5 a6) shapeCasts_S64x325x64_S64x20800 (ix2 i0 ⟨n.val * 64 + j.val, by omega⟩)
      = Cert.KernelIdeal.Value.G3 a0 a1 a3 a4 a5 a6 (ix3 i0 n j) := by
    generalize Cert.KernelIdeal.Value.G3 a0 a1 a3 a4 a5 a6 = y
    pointwise
  rw [hr]
  refine (Cert.ReferenceIdeal.Stages.whole_at a0 a1 a3 a4 a5 a6 i0 n j).trans ?_
  exact Cell.cell_eq _ _ _ _ _ _ (fun p q => h3 _) (fun n i => h0 _) (fun n j => h1 _) n j

end Cert.Join
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_graph_and_state
public import proofs.«01_k».proof.Proof.Finite
public import proofs.«01_k».proof.Proof.Result
public import proofs.«01_k».proof.Proof.Join
public import Idealize.ShloMosaic.Lib.Claim
public import Idealize.ShloMosaic.Adequacy
public import Idealize.ShloMosaic.Init

@[expose] public section

noncomputable section

namespace Cert.Proof

open Idealize.ShloMosaic Idealize.SL.Sem

/-- The reference runs to the end, its arguments as they were and every counter at zero. -/
theorem reference_frame : Cert.quiescent_ReferenceIdeal (hReferenceIdeal := Cert.ReferenceIdeal.Gen.facts) := fun m g _ =>
  (θ_run _ _ _).mono (fun r h => ⟨fun c => (h c).2, sem_eq_zero_of_no_sems (by decide) r.2⟩)
    (Cert.ReferenceIdeal.Value.run (F := Ideal) m g)

/-- On real inputs, states and graphs the kernel and the reference end with equal results. -/
theorem same_results : Cert.algebraic_KernelIdeal_ReferenceIdeal_pre_finite_graph_and_state (hKernelIdeal := Cert.KernelIdeal.Gen.facts)
    (hReferenceIdeal := Cert.ReferenceIdeal.Gen.facts) (hPre_finite_graph_and_state := Cert.Pre_finite_graph_and_state.Gen.facts) := by
  intro m g m' g' hpre hagree
  refine ⟨Cert.KernelIdeal.Value.result m, Cert.KernelIdeal.Value.run m g, (θ_run _ _ _).mono (fun r h c => ?_) (Cert.ReferenceIdeal.Value.run (F := Ideal) m' g')⟩
  obtain ⟨p0, p1, p3⟩ := hpre c
  obtain ⟨a0, a1, a2, a3, a4, a5, a6⟩ := hagree c
  refine ⟨(h c).1.trans ?_, (h c).2⟩
  refine (Cert.ReferenceIdeal.Stages.res_eq m' c).trans ?_
  rw [a0, a1, a3, a4, a5, a6]
  exact Cert.Join.result_eq _ _ _ _ _ _ (Cert.Finite.real_of_lt _ _ p0) (Cert.Finite.real_of_lt _ _ p1) (Cert.Finite.real_of_lt _ _ p3)

/-- Every claim of this directory. -/
theorem claim : Cert.Claim := ⟨Cert.Kernel.Gen.facts, Cert.KernelIdeal.Gen.facts, Cert.ReferenceIdeal.Gen.facts, Cert.Pre_finite_graph_and_state.Gen.facts,
  fun m g _ => Cert.Kernel.Gen.frame m g, fun m g _ => Cert.KernelIdeal.Gen.frame m g, fun m g _ => Cert.KernelIdeal.Gen.frame m g,
  reference_frame, fun m g _ => reference_frame m g trivial, trivial, same_results⟩

end Cert.Proof

end
